-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x256 : Shape := ⟨2, ![8192, 256]⟩
abbrev S4x8192x256 : Shape := ⟨3, ![4, 8192, 256]⟩
abbrev S_ : Shape := ⟨0, ![]⟩

class Facts : Prop where
  bcast_S_S8192x256 : S_.BroadcastsInDim S8192x256 (![] : Fin 0 → Fin S8192x256.rank)
  bcast_S_S4x8192x256 : S_.BroadcastsInDim S4x8192x256 (![] : Fin 0 → Fin S4x8192x256.rank)

variable [Facts]

def fn {F : FTy → Type} [FloatOps F] (main_arg0 : FVec F S8192x256 .f32) (main_arg1 : FVec F S4x8192x256 .f32) : IVec S8192x256 1 × IVec S4x8192x256 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S4x8192x256 .f32 := Host.absf main_arg1
  let main_cst_0 : FVec F S_ .f32 := constant S_ .f32 0x7F800000#32
  let main_v4 : FVec F S4x8192x256 .f32 := broadcastInDim S4x8192x256 ![] bcast_S_S4x8192x256 main_cst_0
  let main_v5 : IVec S4x8192x256 1 := cmpf .olt main_v3 main_v4
  (main_v2, main_v5)
-- ==== Kernel.lean ====
abbrev S8192x256 : Shape := ⟨2, ![8192, 256]⟩
abbrev S4x8192x256 : Shape := ⟨3, ![4, 8192, 256]⟩
abbrev S1x8192x256 : Shape := ⟨3, ![1, 8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S16x1x512 : Shape := ⟨3, ![16, 1, 512]⟩
abbrev S4096x256 : Shape := ⟨2, ![4096, 256]⟩
abbrev S512x256 : Shape := ⟨2, ![512, 256]⟩
abbrev S4096x1 : Shape := ⟨2, ![4096, 1]⟩
abbrev S1x512 : Shape := ⟨2, ![1, 512]⟩
abbrev S1x1x512 : Shape := ⟨3, ![1, 1, 512]⟩
abbrev S8x512 : Shape := ⟨2, ![8, 512]⟩
abbrev S64x256 : Shape := ⟨2, ![64, 256]⟩
abbrev S64x512 : Shape := ⟨2, ![64, 512]⟩
abbrev S64x1 : Shape := ⟨2, ![64, 1]⟩
abbrev S512 : Shape := ⟨1, ![512]⟩
abbrev S1 : Shape := ⟨1, ![1]⟩
abbrev S1x1 : Shape := ⟨2, ![1, 1]⟩
abbrev S8192x4 : Shape := ⟨2, ![8192, 4]⟩

abbrev nBuf : Space → Nat
  | .hbm => 152
  | .vmem => 48
  | .smem => 0
  | _ => 0

abbrev hbmTy0_0 (i : Nat) : BufTy := match i % 128 with
  | 0 => ⟨S8192x256, .f32⟩
  | 1 => ⟨S4x8192x256, .f32⟩
  | 2 => ⟨S1x8192x256, .f32⟩
  | 3 => ⟨S8192x256, .f32⟩
  | 4 => ⟨S8192x256, .f32⟩
  | 5 => ⟨S_, .f32⟩
  | 6 => ⟨S8192, .f32⟩
  | 7 => ⟨S8192x1, .f32⟩
  | 8 => ⟨S8192x256, .f32⟩
  | 9 => ⟨S_, .f32⟩
  | 10 => ⟨S8192, .f32⟩
  | 11 => ⟨S1x8192, .f32⟩
  | 12 => ⟨S16x1x512, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S1, .i32⟩
  | 23 => ⟨S_, .i32⟩
  | 24 => ⟨S8192x1, .i32⟩
  | 25 => ⟨S8192x1, .i1⟩
  | 26 => ⟨S1x1, .i32⟩
  | 27 => ⟨S8192x1, .i32⟩
  | 28 => ⟨S8192x1, .i1⟩
  | 29 => ⟨S8192x1, .i1⟩
  | 30 => ⟨S_, .i1⟩
  | 31 => ⟨S8192, .i1⟩
  | 32 => ⟨S8192x256, .f32⟩
  | 33 => ⟨S8192x256, .i1⟩
  | 34 => ⟨S_, .f32⟩
  | 35 => ⟨S8192x256, .f32⟩
  | 36 => ⟨S8192x256, .f32⟩
  | 37 => ⟨S8192x256, .f32⟩
  | 38 => ⟨S1x8192x256, .f32⟩
  | 39 => ⟨S8192x256, .f32⟩
  | 40 => ⟨S8192x256, .f32⟩
  | 41 => ⟨S_, .f32⟩
  | 42 => ⟨S8192, .f32⟩
  | 43 => ⟨S8192x1, .f32⟩
  | 44 => ⟨S8192x256, .f32⟩
  | 45 => ⟨S_, .f32⟩
  | 46 => ⟨S8192, .f32⟩
  | 47 => ⟨S1x8192, .f32⟩
  | 48 => ⟨S16x1x512, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S1, .i32⟩
  | 59 => ⟨S_, .i32⟩
  | 60 => ⟨S8192x1, .i32⟩
  | 61 => ⟨S8192x1, .i1⟩
  | 62 => ⟨S1x1, .i32⟩
  | 63 => ⟨S8192x1, .i32⟩
  | 64 => ⟨S8192x1, .i1⟩
  | 65 => ⟨S8192x1, .i1⟩
  | 66 => ⟨S_, .i1⟩
  | 67 => ⟨S8192, .i1⟩
  | 68 => ⟨S8192x256, .f32⟩
  | 69 => ⟨S8192x256, .i1⟩
  | 70 => ⟨S_, .f32⟩
  | 71 => ⟨S8192x256, .f32⟩
  | 72 => ⟨S8192x256, .f32⟩
  | 73 => ⟨S8192x256, .f32⟩
  | 74 => ⟨S1x8192x256, .f32⟩
  | 75 => ⟨S8192x256, .f32⟩
  | 76 => ⟨S8192x256, .f32⟩
  | 77 => ⟨S_, .f32⟩
  | 78 => ⟨S8192, .f32⟩
  | 79 => ⟨S8192x1, .f32⟩
  | 80 => ⟨S8192x256, .f32⟩
  | 81 => ⟨S_, .f32⟩
  | 82 => ⟨S8192, .f32⟩
  | 83 => ⟨S1x8192, .f32⟩
  | 84 => ⟨S16x1x512, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S1, .i32⟩
  | 95 => ⟨S_, .i32⟩
  | 96 => ⟨S8192x1, .i32⟩
  | 97 => ⟨S8192x1, .i1⟩
  | 98 => ⟨S1x1, .i32⟩
  | 99 => ⟨S8192x1, .i32⟩
  | 100 => ⟨S8192x1, .i1⟩
  | 101 => ⟨S8192x1, .i1⟩
  | 102 => ⟨S_, .i1⟩
  | 103 => ⟨S8192, .i1⟩
  | 104 => ⟨S8192x256, .f32⟩
  | 105 => ⟨S8192x256, .i1⟩
  | 106 => ⟨S_, .f32⟩
  | 107 => ⟨S8192x256, .f32⟩
  | 108 => ⟨S8192x256, .f32⟩
  | 109 => ⟨S8192x256, .f32⟩
  | 110 => ⟨S1x8192x256, .f32⟩
  | 111 => ⟨S8192x256, .f32⟩
  | 112 => ⟨S8192x256, .f32⟩
  | 113 => ⟨S_, .f32⟩
  | 114 => ⟨S8192, .f32⟩
  | 115 => ⟨S8192x1, .f32⟩
  | 116 => ⟨S8192x256, .f32⟩
  | 117 => ⟨S_, .f32⟩
  | 118 => ⟨S8192, .f32⟩
  | 119 => ⟨S1x8192, .f32⟩
  | 120 => ⟨S16x1x512, .i32⟩
  | 121 => ⟨S8192, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x256, .f32⟩

abbrev hbmTy0_1 (i : Nat) : BufTy := match i % 128 with
  | 0 => ⟨S8192, .i32⟩
  | 1 => ⟨S8192x1, .i32⟩
  | 2 => ⟨S1, .i32⟩
  | 3 => ⟨S_, .i32⟩
  | 4 => ⟨S8192x1, .i32⟩
  | 5 => ⟨S8192x1, .i1⟩
  | 6 => ⟨S1x1, .i32⟩
  | 7 => ⟨S8192x1, .i32⟩
  | 8 => ⟨S8192x1, .i1⟩
  | 9 => ⟨S8192x1, .i1⟩
  | 10 => ⟨S_, .i1⟩
  | 11 => ⟨S8192, .i1⟩
  | 12 => ⟨S8192x256, .f32⟩
  | 13 => ⟨S8192x256, .i1⟩
  | 14 => ⟨S_, .f32⟩
  | 15 => ⟨S8192x256, .f32⟩
  | 16 => ⟨S8192x256, .f32⟩
  | 17 => ⟨S8192x256, .f32⟩
  | 18 => ⟨S8192x1, .i32⟩
  | 19 => ⟨S8192x1, .i32⟩
  | 20 => ⟨S8192x1, .i32⟩
  | 21 => ⟨S8192x1, .i32⟩
  | 22 => ⟨S8192x4, .i32⟩
  | 23 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S512x256, .f32⟩
  | .local _ .vmem, ⟨3, _⟩ => ⟨S512x256, .f32⟩
  | .local _ .vmem, ⟨4, _⟩ => ⟨S4096x1, .f32⟩
  | .local _ .vmem, ⟨5, _⟩ => ⟨S4096x1, .f32⟩
  | .local _ .vmem, ⟨6, _⟩ => ⟨S1x512, .f32⟩
  | .local _ .vmem, ⟨7, _⟩ => ⟨S1x512, .f32⟩
  | .local _ .vmem, ⟨8, _⟩ => ⟨S1x1x512, .i32⟩
  | .local _ .vmem, ⟨9, _⟩ => ⟨S1x1x512, .i32⟩
  | .local _ .vmem, ⟨10, _⟩ => ⟨S1x8192, .f32⟩
  | .local _ .vmem, ⟨11, _⟩ => ⟨S1x8192, .i32⟩
  | .local _ .vmem, ⟨12, _⟩ => ⟨S4096x256, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S4096x1, .f32⟩
  | .local _ .vmem, ⟨17, _⟩ => ⟨S4096x1, .f32⟩
  | .local _ .vmem, ⟨18, _⟩ => ⟨S1x512, .f32⟩
  | .local _ .vmem, ⟨19, _⟩ => ⟨S1x512, .f32⟩
  | .local _ .vmem, ⟨20, _⟩ => ⟨S1x1x512, .i32⟩
  | .local _ .vmem, ⟨21, _⟩ => ⟨S1x1x512, .i32⟩
  | .local _ .vmem, ⟨22, _⟩ => ⟨S1x8192, .f32⟩
  | .local _ .vmem, ⟨23, _⟩ => ⟨S1x8192, .i32⟩
  | .local _ .vmem, ⟨24, _⟩ => ⟨S4096x256, .f32⟩
  | .local _ .vmem, ⟨25, _⟩ => ⟨S4096x256, .f32⟩
  | .local _ .vmem, ⟨26, _⟩ => ⟨S512x256, .f32⟩
  | .local _ .vmem, ⟨27, _⟩ => ⟨S512x256, .f32⟩
  | .local _ .vmem, ⟨28, _⟩ => ⟨S4096x1, .f32⟩
  | .local _ .vmem, ⟨29, _⟩ => ⟨S4096x1, .f32⟩
  | .local _ .vmem, ⟨30, _⟩ => ⟨S1x512, .f32⟩
  | .local _ .vmem, ⟨31, _⟩ => ⟨S1x512, .f32⟩
  | .local _ .vmem, ⟨32, _⟩ => ⟨S1x1x512, .i32⟩
  | .local _ .vmem, ⟨33, _⟩ => ⟨S1x1x512, .i32⟩
  | .local _ .vmem, ⟨34, _⟩ => ⟨S1x8192, .f32⟩
  | .local _ .vmem, ⟨35, _⟩ => ⟨S1x8192, .i32⟩
  | .local _ .vmem, ⟨36, _⟩ => ⟨S4096x256, .f32⟩
  | .local _ .vmem, ⟨37, _⟩ => ⟨S4096x256, .f32⟩
  | .local _ .vmem, ⟨38, _⟩ => ⟨S512x256, .f32⟩
  | .local _ .vmem, ⟨39, _⟩ => ⟨S512x256, .f32⟩
  | .local _ .vmem, ⟨40, _⟩ => ⟨S4096x1, .f32⟩
  | .local _ .vmem, ⟨41, _⟩ => ⟨S4096x1, .f32⟩
  | .local _ .vmem, ⟨42, _⟩ => ⟨S1x512, .f32⟩
  | .local _ .vmem, ⟨43, _⟩ => ⟨S1x512, .f32⟩
  | .local _ .vmem, ⟨44, _⟩ => ⟨S1x1x512, .i32⟩
  | .local _ .vmem, ⟨45, _⟩ => ⟨S1x1x512, .i32⟩
  | .local _ .vmem, ⟨46, _⟩ => ⟨S1x8192, .f32⟩
  | .local _ .vmem, ⟨47, _⟩ => ⟨S1x8192, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_3 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_4 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_cst_5 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_cst_6 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_call3_c : Ref sig .tc := ⟨.hbm, 122, rfl⟩
abbrev main_call3_v0 : Ref sig .tc := ⟨.hbm, 123, rfl⟩
abbrev main_call3_v1 : Ref sig .tc := ⟨.hbm, 124, rfl⟩
abbrev main_call3_c_0 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_c_1 : Ref sig .tc := ⟨.hbm, 130, rfl⟩
abbrev main_call3_c_2 : Ref sig .tc := ⟨.hbm, 131, rfl⟩
abbrev main_call3_v6 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_call3_c_3 : Ref sig .tc := ⟨.hbm, 138, rfl⟩
abbrev main_call3_v12 : Ref sig .tc := ⟨.hbm, 139, rfl⟩
abbrev main_call3_v13 : Ref sig .tc := ⟨.hbm, 140, rfl⟩
abbrev main_call3_v14 : Ref sig .tc := ⟨.hbm, 141, rfl⟩
abbrev main_call3_cst : Ref sig .tc := ⟨.hbm, 142, rfl⟩
abbrev main_call3_v15 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_scratch0 : Ref sig .tc := ⟨.vmem, 46, rfl⟩
abbrev cc3_scratch1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c1_i32 : BitVec 32 := 1#32
  let c31_i32 : BitVec 32 := 31#32
  let v89 : BitVec 32 := Scalar.addi c1_i32 c31_i32
  let c1_i32_20 : BitVec 32 := 1#32
  ⟨c1_i32, v89, c1_i32_20⟩
def k0_off1 (k0_t1 : Fin k0_t1_loop.trips) : Fin 2 → Nat :=
  let c2_i32 : BitVec 32 := 2#32
  let c1_i32 : BitVec 32 := 1#32
  let c1_i32_20 : BitVec 32 := 1#32
  let arg9 : BitVec 32 := Scf.iv c1_i32 c1_i32_20 k0_t1
  let v180 : BitVec 32 := Scalar.muli c2_i32 arg9
  let c64_i32 : BitVec 32 := 64#32
  let v181 : BitVec 32 := Scalar.muli v180 c64_i32
  let v182 : Index := Scalar.indexCast v181
  let c0_47 : Index := 0#32
  ![v182.toNat, 0]
def k0_off2 (k0_t1 : Fin k0_t1_loop.trips) : Fin 2 → Nat :=
  let c2_i32_49 : BitVec 32 := 2#32
  let c1_i32 : BitVec 32 := 1#32
  let c1_i32_20 : BitVec 32 := 1#32
  let arg9 : BitVec 32 := Scf.iv c1_i32 c1_i32_20 k0_t1
  let v187 : BitVec 32 := Scalar.muli c2_i32_49 arg9
  let c1_i32_50 : BitVec 32 := 1#32
  let v188 : BitVec 32 := Scalar.addi v187 c1_i32_50
  let c64_i32_51 : BitVec 32 := 64#32
  let v189 : BitVec 32 := Scalar.muli v188 c64_i32_51
  let v190 : Index := Scalar.indexCast v189
  let c0_52 : Index := 0#32
  ![v190.toNat, 0]
def k0_off3 (k0_t1 : Fin k0_t1_loop.trips) : Fin 2 → Nat :=
  let c2_i32_54 : BitVec 32 := 2#32
  let c1_i32 : BitVec 32 := 1#32
  let c1_i32_20 : BitVec 32 := 1#32
  let arg9 : BitVec 32 := Scf.iv c1_i32 c1_i32_20 k0_t1
  let v195 : BitVec 32 := Scalar.muli c2_i32_54 arg9
  let c1_i32_55 : BitVec 32 := 1#32
  let v196 : BitVec 32 := Scalar.subi v195 c1_i32_55
  let c64_i32_56 : BitVec 32 := 64#32
  let v197 : BitVec 32 := Scalar.muli v196 c64_i32_56
  let v198 : Index := Scalar.indexCast v197
  let c0_57 : Index := 0#32
  ![v198.toNat, 0]
def k0_off4 (k0_t1 : Fin k0_t1_loop.trips) : Fin 2 → Nat :=
  let c2_i32_75 : BitVec 32 := 2#32
  let c1_i32 : BitVec 32 := 1#32
  let c1_i32_20 : BitVec 32 := 1#32
  let arg9 : BitVec 32 := Scf.iv c1_i32 c1_i32_20 k0_t1
  let v279 : BitVec 32 := Scalar.muli c2_i32_75 arg9
  let c64_i32_76 : BitVec 32 := 64#32
  let v280 : BitVec 32 := Scalar.muli v279 c64_i32_76
  let v281 : Index := Scalar.indexCast v280
  let c0_77 : Index := 0#32
  ![v281.toNat, 0]
def k0_cond1 (i : grid0.Coords) : BitVec 1 :=
  let arg0 : BitVec 32 := BitVec.ofNat 32 (i 0).val
  let c0_i32_41 : BitVec 32 := 0#32
  let v171 : BitVec 1 := Scalar.cmpi .eq arg0 c0_i32_41
  let v172 : BitVec 32 := Scalar.extui v171
  let c0_i32_42 : BitVec 32 := 0#32
  let v173 : BitVec 1 := Scalar.cmpi .ne v172 c0_i32_42
  v173

def k0_off5 (i : grid0.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v180 : Index := Scalar.indexCast v0
  ![0, v180.toNat]
def k0_cond2 (i : grid0.Coords) : BitVec 1 :=
  let arg0 : BitVec 32 := BitVec.ofNat 32 (i 0).val
  let c0_i32_43 : BitVec 32 := 0#32
  let v174 : BitVec 1 := Scalar.cmpi .sgt arg0 c0_i32_43
  let v175 : BitVec 32 := Scalar.extui v174
  let c0_i32_44 : BitVec 32 := 0#32
  let v176 : BitVec 1 := Scalar.cmpi .ne v175 c0_i32_44
  v176

def k0_off6 (i : grid0.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v180 : Index := Scalar.indexCast v0
  ![0, v180.toNat]
def k0_cond3 (i : grid0.Coords) : BitVec 1 :=
  let arg0 : BitVec 32 := BitVec.ofNat 32 (i 0).val
  let c1_i32_45 : BitVec 32 := 1#32
  let v177 : BitVec 1 := Scalar.cmpi .eq arg0 c1_i32_45
  let v178 : BitVec 32 := Scalar.extui v177
  let c0_i32_46 : BitVec 32 := 0#32
  let v179 : BitVec 1 := Scalar.cmpi .ne v178 c0_i32_46
  v179

def k0_off7 (i : grid0.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v180 : Index := Scalar.indexCast v0
  ![0, v180.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev grid1 : Pipeline.Grid := ⟨2, ![2, 16], ![false, false]⟩

@[reducible] def k1_t1_loop : Scf.Loop 32 :=
  let c1_i32 : BitVec 32 := 1#32
  let c31_i32 : BitVec 32 := 31#32
  let v90 : BitVec 32 := Scalar.addi c1_i32 c31_i32
  let c1_i32_20 : BitVec 32 := 1#32
  ⟨c1_i32, v90, c1_i32_20⟩
def k1_off1 (k1_t1 : Fin k1_t1_loop.trips) : Fin 2 → Nat :=
  let c2_i32 : BitVec 32 := 2#32
  let c1_i32 : BitVec 32 := 1#32
  let c1_i32_20 : BitVec 32 := 1#32
  let arg9 : BitVec 32 := Scf.iv c1_i32 c1_i32_20 k1_t1
  let v181 : BitVec 32 := Scalar.muli c2_i32 arg9
  let c64_i32 : BitVec 32 := 64#32
  let v182 : BitVec 32 := Scalar.muli v181 c64_i32
  let v183 : Index := Scalar.indexCast v182
  let c0_47 : Index := 0#32
  ![v183.toNat, 0]
def k1_off2 (k1_t1 : Fin k1_t1_loop.trips) : Fin 2 → Nat :=
  let c2_i32_49 : BitVec 32 := 2#32
  let c1_i32 : BitVec 32 := 1#32
  let c1_i32_20 : BitVec 32 := 1#32
  let arg9 : BitVec 32 := Scf.iv c1_i32 c1_i32_20 k1_t1
  let v188 : BitVec 32 := Scalar.muli c2_i32_49 arg9
  let c1_i32_50 : BitVec 32 := 1#32
  let v189 : BitVec 32 := Scalar.addi v188 c1_i32_50
  let c64_i32_51 : BitVec 32 := 64#32
  let v190 : BitVec 32 := Scalar.muli v189 c64_i32_51
  let v191 : Index := Scalar.indexCast v190
  let c0_52 : Index := 0#32
  ![v191.toNat, 0]
def k1_off3 (k1_t1 : Fin k1_t1_loop.trips) : Fin 2 → Nat :=
  let c2_i32_54 : BitVec 32 := 2#32
  let c1_i32 : BitVec 32 := 1#32
  let c1_i32_20 : BitVec 32 := 1#32
  let arg9 : BitVec 32 := Scf.iv c1_i32 c1_i32_20 k1_t1
  let v196 : BitVec 32 := Scalar.muli c2_i32_54 arg9
  let c1_i32_55 : BitVec 32 := 1#32
  let v197 : BitVec 32 := Scalar.subi v196 c1_i32_55
  let c64_i32_56 : BitVec 32 := 64#32
  let v198 : BitVec 32 := Scalar.muli v197 c64_i32_56
  let v199 : Index := Scalar.indexCast v198
  let c0_57 : Index := 0#32
  ![v199.toNat, 0]
def k1_off4 (k1_t1 : Fin k1_t1_loop.trips) : Fin 2 → Nat :=
  let c2_i32_75 : BitVec 32 := 2#32
  let c1_i32 : BitVec 32 := 1#32
  let c1_i32_20 : BitVec 32 := 1#32
  let arg9 : BitVec 32 := Scf.iv c1_i32 c1_i32_20 k1_t1
  let v280 : BitVec 32 := Scalar.muli c2_i32_75 arg9
  let c64_i32_76 : BitVec 32 := 64#32
  let v281 : BitVec 32 := Scalar.muli v280 c64_i32_76
  let v282 : Index := Scalar.indexCast v281
  let c0_77 : Index := 0#32
  ![v282.toNat, 0]
def k1_cond1 (i : grid1.Coords) : BitVec 1 :=
  let arg0 : BitVec 32 := BitVec.ofNat 32 (i 0).val
  let c0_i32_41 : BitVec 32 := 0#32
  let v172 : BitVec 1 := Scalar.cmpi .eq arg0 c0_i32_41
  let v173 : BitVec 32 := Scalar.extui v172
  let c0_i32_42 : BitVec 32 := 0#32
  let v174 : BitVec 1 := Scalar.cmpi .ne v173 c0_i32_42
  v174

def k1_off5 (i : grid1.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def k1_cond2 (i : grid1.Coords) : BitVec 1 :=
  let arg0 : BitVec 32 := BitVec.ofNat 32 (i 0).val
  let c0_i32_43 : BitVec 32 := 0#32
  let v175 : BitVec 1 := Scalar.cmpi .sgt arg0 c0_i32_43
  let v176 : BitVec 32 := Scalar.extui v175
  let c0_i32_44 : BitVec 32 := 0#32
  let v177 : BitVec 1 := Scalar.cmpi .ne v176 c0_i32_44
  v177

def k1_off6 (i : grid1.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def k1_cond3 (i : grid1.Coords) : BitVec 1 :=
  let arg0 : BitVec 32 := BitVec.ofNat 32 (i 0).val
  let c1_i32_45 : BitVec 32 := 1#32
  let v178 : BitVec 1 := Scalar.cmpi .eq arg0 c1_i32_45
  let v179 : BitVec 32 := Scalar.extui v178
  let c0_i32_46 : BitVec 32 := 0#32
  let v180 : BitVec 1 := Scalar.cmpi .ne v179 c0_i32_46
  v180

def k1_off7 (i : grid1.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev grid2 : Pipeline.Grid := ⟨2, ![2, 16], ![false, false]⟩

@[reducible] def k2_t1_loop : Scf.Loop 32 :=
  let c1_i32 : BitVec 32 := 1#32
  let c31_i32 : BitVec 32 := 31#32
  let v90 : BitVec 32 := Scalar.addi c1_i32 c31_i32
  let c1_i32_20 : BitVec 32 := 1#32
  ⟨c1_i32, v90, c1_i32_20⟩
def k2_off1 (k2_t1 : Fin k2_t1_loop.trips) : Fin 2 → Nat :=
  let c2_i32 : BitVec 32 := 2#32
  let c1_i32 : BitVec 32 := 1#32
  let c1_i32_20 : BitVec 32 := 1#32
  let arg9 : BitVec 32 := Scf.iv c1_i32 c1_i32_20 k2_t1
  let v181 : BitVec 32 := Scalar.muli c2_i32 arg9
  let c64_i32 : BitVec 32 := 64#32
  let v182 : BitVec 32 := Scalar.muli v181 c64_i32
  let v183 : Index := Scalar.indexCast v182
  let c0_47 : Index := 0#32
  ![v183.toNat, 0]
def k2_off2 (k2_t1 : Fin k2_t1_loop.trips) : Fin 2 → Nat :=
  let c2_i32_49 : BitVec 32 := 2#32
  let c1_i32 : BitVec 32 := 1#32
  let c1_i32_20 : BitVec 32 := 1#32
  let arg9 : BitVec 32 := Scf.iv c1_i32 c1_i32_20 k2_t1
  let v188 : BitVec 32 := Scalar.muli c2_i32_49 arg9
  let c1_i32_50 : BitVec 32 := 1#32
  let v189 : BitVec 32 := Scalar.addi v188 c1_i32_50
  let c64_i32_51 : BitVec 32 := 64#32
  let v190 : BitVec 32 := Scalar.muli v189 c64_i32_51
  let v191 : Index := Scalar.indexCast v190
  let c0_52 : Index := 0#32
  ![v191.toNat, 0]
def k2_off3 (k2_t1 : Fin k2_t1_loop.trips) : Fin 2 → Nat :=
  let c2_i32_54 : BitVec 32 := 2#32
  let c1_i32 : BitVec 32 := 1#32
  let c1_i32_20 : BitVec 32 := 1#32
  let arg9 : BitVec 32 := Scf.iv c1_i32 c1_i32_20 k2_t1
  let v196 : BitVec 32 := Scalar.muli c2_i32_54 arg9
  let c1_i32_55 : BitVec 32 := 1#32
  let v197 : BitVec 32 := Scalar.subi v196 c1_i32_55
  let c64_i32_56 : BitVec 32 := 64#32
  let v198 : BitVec 32 := Scalar.muli v197 c64_i32_56
  let v199 : Index := Scalar.indexCast v198
  let c0_57 : Index := 0#32
  ![v199.toNat, 0]
def k2_off4 (k2_t1 : Fin k2_t1_loop.trips) : Fin 2 → Nat :=
  let c2_i32_75 : BitVec 32 := 2#32
  let c1_i32 : BitVec 32 := 1#32
  let c1_i32_20 : BitVec 32 := 1#32
  let arg9 : BitVec 32 := Scf.iv c1_i32 c1_i32_20 k2_t1
  let v280 : BitVec 32 := Scalar.muli c2_i32_75 arg9
  let c64_i32_76 : BitVec 32 := 64#32
  let v281 : BitVec 32 := Scalar.muli v280 c64_i32_76
  let v282 : Index := Scalar.indexCast v281
  let c0_77 : Index := 0#32
  ![v282.toNat, 0]
def k2_cond1 (i : grid2.Coords) : BitVec 1 :=
  let arg0 : BitVec 32 := BitVec.ofNat 32 (i 0).val
  let c0_i32_41 : BitVec 32 := 0#32
  let v172 : BitVec 1 := Scalar.cmpi .eq arg0 c0_i32_41
  let v173 : BitVec 32 := Scalar.extui v172
  let c0_i32_42 : BitVec 32 := 0#32
  let v174 : BitVec 1 := Scalar.cmpi .ne v173 c0_i32_42
  v174

def k2_off5 (i : grid2.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def k2_cond2 (i : grid2.Coords) : BitVec 1 :=
  let arg0 : BitVec 32 := BitVec.ofNat 32 (i 0).val
  let c0_i32_43 : BitVec 32 := 0#32
  let v175 : BitVec 1 := Scalar.cmpi .sgt arg0 c0_i32_43
  let v176 : BitVec 32 := Scalar.extui v175
  let c0_i32_44 : BitVec 32 := 0#32
  let v177 : BitVec 1 := Scalar.cmpi .ne v176 c0_i32_44
  v177

def k2_off6 (i : grid2.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def k2_cond3 (i : grid2.Coords) : BitVec 1 :=
  let arg0 : BitVec 32 := BitVec.ofNat 32 (i 0).val
  let c1_i32_45 : BitVec 32 := 1#32
  let v178 : BitVec 1 := Scalar.cmpi .eq arg0 c1_i32_45
  let v179 : BitVec 32 := Scalar.extui v178
  let c0_i32_46 : BitVec 32 := 0#32
  let v180 : BitVec 1 := Scalar.cmpi .ne v179 c0_i32_46
  v180

def k2_off7 (i : grid2.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1x512 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev grid3 : Pipeline.Grid := ⟨2, ![2, 16], ![false, false]⟩

@[reducible] def k3_t1_loop : Scf.Loop 32 :=
  let c1_i32 : BitVec 32 := 1#32
  let c31_i32 : BitVec 32 := 31#32
  let v90 : BitVec 32 := Scalar.addi c1_i32 c31_i32
  let c1_i32_20 : BitVec 32 := 1#32
  ⟨c1_i32, v90, c1_i32_20⟩
def k3_off1 (k3_t1 : Fin k3_t1_loop.trips) : Fin 2 → Nat :=
  let c2_i32 : BitVec 32 := 2#32
  let c1_i32 : BitVec 32 := 1#32
  let c1_i32_20 : BitVec 32 := 1#32
  let arg9 : BitVec 32 := Scf.iv c1_i32 c1_i32_20 k3_t1
  let v181 : BitVec 32 := Scalar.muli c2_i32 arg9
  let c64_i32 : BitVec 32 := 64#32
  let v182 : BitVec 32 := Scalar.muli v181 c64_i32
  let v183 : Index := Scalar.indexCast v182
  let c0_47 : Index := 0#32
  ![v183.toNat, 0]
def k3_off2 (k3_t1 : Fin k3_t1_loop.trips) : Fin 2 → Nat :=
  let c2_i32_49 : BitVec 32 := 2#32
  let c1_i32 : BitVec 32 := 1#32
  let c1_i32_20 : BitVec 32 := 1#32
  let arg9 : BitVec 32 := Scf.iv c1_i32 c1_i32_20 k3_t1
  let v188 : BitVec 32 := Scalar.muli c2_i32_49 arg9
  let c1_i32_50 : BitVec 32 := 1#32
  let v189 : BitVec 32 := Scalar.addi v188 c1_i32_50
  let c64_i32_51 : BitVec 32 := 64#32
  let v190 : BitVec 32 := Scalar.muli v189 c64_i32_51
  let v191 : Index := Scalar.indexCast v190
  let c0_52 : Index := 0#32
  ![v191.toNat, 0]
def k3_off3 (k3_t1 : Fin k3_t1_loop.trips) : Fin 2 → Nat :=
  let c2_i32_54 : BitVec 32 := 2#32
  let c1_i32 : BitVec 32 := 1#32
  let c1_i32_20 : BitVec 32 := 1#32
  let arg9 : BitVec 32 := Scf.iv c1_i32 c1_i32_20 k3_t1
  let v196 : BitVec 32 := Scalar.muli c2_i32_54 arg9
  let c1_i32_55 : BitVec 32 := 1#32
  let v197 : BitVec 32 := Scalar.subi v196 c1_i32_55
  let c64_i32_56 : BitVec 32 := 64#32
  let v198 : BitVec 32 := Scalar.muli v197 c64_i32_56
  let v199 : Index := Scalar.indexCast v198
  let c0_57 : Index := 0#32
  ![v199.toNat, 0]
def k3_off4 (k3_t1 : Fin k3_t1_loop.trips) : Fin 2 → Nat :=
  let c2_i32_75 : BitVec 32 := 2#32
  let c1_i32 : BitVec 32 := 1#32
  let c1_i32_20 : BitVec 32 := 1#32
  let arg9 : BitVec 32 := Scf.iv c1_i32 c1_i32_20 k3_t1
  let v280 : BitVec 32 := Scalar.muli c2_i32_75 arg9
  let c64_i32_76 : BitVec 32 := 64#32
  let v281 : BitVec 32 := Scalar.muli v280 c64_i32_76
  let v282 : Index := Scalar.indexCast v281
  let c0_77 : Index := 0#32
  ![v282.toNat, 0]
def k3_cond1 (i : grid3.Coords) : BitVec 1 :=
  let arg0 : BitVec 32 := BitVec.ofNat 32 (i 0).val
  let c0_i32_41 : BitVec 32 := 0#32
  let v172 : BitVec 1 := Scalar.cmpi .eq arg0 c0_i32_41
  let v173 : BitVec 32 := Scalar.extui v172
  let c0_i32_42 : BitVec 32 := 0#32
  let v174 : BitVec 1 := Scalar.cmpi .ne v173 c0_i32_42
  v174

def k3_off5 (i : grid3.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def k3_cond2 (i : grid3.Coords) : BitVec 1 :=
  let arg0 : BitVec 32 := BitVec.ofNat 32 (i 0).val
  let c0_i32_43 : BitVec 32 := 0#32
  let v175 : BitVec 1 := Scalar.cmpi .sgt arg0 c0_i32_43
  let v176 : BitVec 32 := Scalar.extui v175
  let c0_i32_44 : BitVec 32 := 0#32
  let v177 : BitVec 1 := Scalar.cmpi .ne v176 c0_i32_44
  v177

def k3_off6 (i : grid3.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def k3_cond3 (i : grid3.Coords) : BitVec 1 :=
  let arg0 : BitVec 32 := BitVec.ofNat 32 (i 0).val
  let c1_i32_45 : BitVec 32 := 1#32
  let v178 : BitVec 1 := Scalar.cmpi .eq arg0 c1_i32_45
  let v179 : BitVec 32 := Scalar.extui v178
  let c0_i32_46 : BitVec 32 := 0#32
  let v180 : BitVec 1 := Scalar.cmpi .ne v179 c0_i32_46
  v180

def k3_off7 (i : grid3.Coords) : Fin 2 → Nat :=
  let c0_47 : Index := 0#32
  let arg1 : BitVec 32 := BitVec.ofNat 32 (i 1).val
  let c512_i32 : BitVec 32 := 512#32
  let v0 : BitVec 32 := Scalar.muli arg1 c512_i32
  let v181 : Index := Scalar.indexCast v0
  ![0, v181.toNat]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x1x512 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]
-- ==== KernelIdeal.lean ====
variable {F : FTy → Type} [FloatOps F] [Named F]
def κ : String → Option EReal := fun
  | "big" => some ⊤
  | _ => none
-- ==== ReferenceIdeal.lean ====
abbrev S8192x256 : Shape := ⟨2, ![8192, 256]⟩
abbrev S4x8192x256 : Shape := ⟨3, ![4, 8192, 256]⟩
abbrev S_ : Shape := ⟨0, ![]⟩
abbrev S1x8192x256 : Shape := ⟨3, ![1, 8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩
abbrev S1 : Shape := ⟨1, ![1]⟩
abbrev S1x1 : Shape := ⟨2, ![1, 1]⟩
abbrev S8192x4 : Shape := ⟨2, ![8192, 4]⟩

abbrev nBuf : Space → Nat
  | .hbm => 205
  | .vmem => 0
  | .smem => 0
  | _ => 0

abbrev hbmTy0_0 (i : Nat) : BufTy := match i % 128 with
  | 0 => ⟨S8192x256, .f32⟩
  | 1 => ⟨S4x8192x256, .f32⟩
  | 2 => ⟨S_, .f32⟩
  | 3 => ⟨S8192x256, .f32⟩
  | 4 => ⟨S1x8192x256, .f32⟩
  | 5 => ⟨S8192x256, .f32⟩
  | 6 => ⟨S8192x256, .f32⟩
  | 7 => ⟨S_, .f32⟩
  | 8 => ⟨S8192, .f32⟩
  | 9 => ⟨S8192x1, .f32⟩
  | 10 => ⟨S8192x256, .f32⟩
  | 11 => ⟨S_, .f32⟩
  | 12 => ⟨S8192, .f32⟩
  | 13 => ⟨S1x8192, .f32⟩
  | 14 => ⟨S8192x8192, .f32⟩
  | 15 => ⟨S8192x8192, .f32⟩
  | 16 => ⟨S8192x8192, .f32⟩
  | 17 => ⟨S256x8192, .f32⟩
  | 18 => ⟨S8192x8192, .f32⟩
  | 19 => ⟨S_, .f32⟩
  | 20 => ⟨S8192x8192, .f32⟩
  | 21 => ⟨S8192x8192, .f32⟩
  | 22 => ⟨S8192x8192, .f32⟩
  | 23 => ⟨S8192x8192, .i32⟩
  | 24 => ⟨S_, .f32⟩
  | 25 => ⟨S_, .i32⟩
  | 26 => ⟨S8192, .f32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S1, .i32⟩
  | 37 => ⟨S_, .i32⟩
  | 38 => ⟨S8192x1, .i32⟩
  | 39 => ⟨S8192x1, .i1⟩
  | 40 => ⟨S1x1, .i32⟩
  | 41 => ⟨S8192x1, .i32⟩
  | 42 => ⟨S8192x1, .i1⟩
  | 43 => ⟨S8192x1, .i1⟩
  | 44 => ⟨S_, .i1⟩
  | 45 => ⟨S8192, .i1⟩
  | 46 => ⟨S8192x256, .f32⟩
  | 47 => ⟨S8192x256, .i1⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S1x8192x256, .f32⟩
  | 54 => ⟨S8192x256, .f32⟩
  | 55 => ⟨S8192x256, .f32⟩
  | 56 => ⟨S_, .f32⟩
  | 57 => ⟨S8192, .f32⟩
  | 58 => ⟨S8192x1, .f32⟩
  | 59 => ⟨S8192x256, .f32⟩
  | 60 => ⟨S_, .f32⟩
  | 61 => ⟨S8192, .f32⟩
  | 62 => ⟨S1x8192, .f32⟩
  | 63 => ⟨S8192x8192, .f32⟩
  | 64 => ⟨S8192x8192, .f32⟩
  | 65 => ⟨S8192x8192, .f32⟩
  | 66 => ⟨S256x8192, .f32⟩
  | 67 => ⟨S8192x8192, .f32⟩
  | 68 => ⟨S_, .f32⟩
  | 69 => ⟨S8192x8192, .f32⟩
  | 70 => ⟨S8192x8192, .f32⟩
  | 71 => ⟨S8192x8192, .f32⟩
  | 72 => ⟨S8192x8192, .i32⟩
  | 73 => ⟨S_, .f32⟩
  | 74 => ⟨S_, .i32⟩
  | 75 => ⟨S8192, .f32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S1, .i32⟩
  | 86 => ⟨S_, .i32⟩
  | 87 => ⟨S8192x1, .i32⟩
  | 88 => ⟨S8192x1, .i1⟩
  | 89 => ⟨S1x1, .i32⟩
  | 90 => ⟨S8192x1, .i32⟩
  | 91 => ⟨S8192x1, .i1⟩
  | 92 => ⟨S8192x1, .i1⟩
  | 93 => ⟨S_, .i1⟩
  | 94 => ⟨S8192, .i1⟩
  | 95 => ⟨S8192x256, .f32⟩
  | 96 => ⟨S8192x256, .i1⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S1x8192x256, .f32⟩
  | 103 => ⟨S8192x256, .f32⟩
  | 104 => ⟨S8192x256, .f32⟩
  | 105 => ⟨S_, .f32⟩
  | 106 => ⟨S8192, .f32⟩
  | 107 => ⟨S8192x1, .f32⟩
  | 108 => ⟨S8192x256, .f32⟩
  | 109 => ⟨S_, .f32⟩
  | 110 => ⟨S8192, .f32⟩
  | 111 => ⟨S1x8192, .f32⟩
  | 112 => ⟨S8192x8192, .f32⟩
  | 113 => ⟨S8192x8192, .f32⟩
  | 114 => ⟨S8192x8192, .f32⟩
  | 115 => ⟨S256x8192, .f32⟩
  | 116 => ⟨S8192x8192, .f32⟩
  | 117 => ⟨S_, .f32⟩
  | 118 => ⟨S8192x8192, .f32⟩
  | 119 => ⟨S8192x8192, .f32⟩
  | 120 => ⟨S8192x8192, .f32⟩
  | 121 => ⟨S8192x8192, .i32⟩
  | 122 => ⟨S_, .f32⟩
  | 123 => ⟨S_, .i32⟩
  | 124 => ⟨S8192, .f32⟩
  | 125 => ⟨S8192, .i32⟩
  | 126 => ⟨S_, .i32⟩
  | 127 => ⟨S8192, .i32⟩
  | _ => ⟨S8192x256, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S1, .i32⟩
  | 7 => ⟨S_, .i32⟩
  | 8 => ⟨S8192x1, .i32⟩
  | 9 => ⟨S8192x1, .i1⟩
  | 10 => ⟨S1x1, .i32⟩
  | 11 => ⟨S8192x1, .i32⟩
  | 12 => ⟨S8192x1, .i1⟩
  | 13 => ⟨S8192x1, .i1⟩
  | 14 => ⟨S_, .i1⟩
  | 15 => ⟨S8192, .i1⟩
  | 16 => ⟨S8192x256, .f32⟩
  | 17 => ⟨S8192x256, .i1⟩
  | 18 => ⟨S_, .f32⟩
  | 19 => ⟨S8192x256, .f32⟩
  | 20 => ⟨S8192x256, .f32⟩
  | 21 => ⟨S8192x256, .f32⟩
  | 22 => ⟨S8192x256, .f32⟩
  | 23 => ⟨S1x8192x256, .f32⟩
  | 24 => ⟨S8192x256, .f32⟩
  | 25 => ⟨S8192x256, .f32⟩
  | 26 => ⟨S_, .f32⟩
  | 27 => ⟨S8192, .f32⟩
  | 28 => ⟨S8192x1, .f32⟩
  | 29 => ⟨S8192x256, .f32⟩
  | 30 => ⟨S_, .f32⟩
  | 31 => ⟨S8192, .f32⟩
  | 32 => ⟨S1x8192, .f32⟩
  | 33 => ⟨S8192x8192, .f32⟩
  | 34 => ⟨S8192x8192, .f32⟩
  | 35 => ⟨S8192x8192, .f32⟩
  | 36 => ⟨S256x8192, .f32⟩
  | 37 => ⟨S8192x8192, .f32⟩
  | 38 => ⟨S_, .f32⟩
  | 39 => ⟨S8192x8192, .f32⟩
  | 40 => ⟨S8192x8192, .f32⟩
  | 41 => ⟨S8192x8192, .f32⟩
  | 42 => ⟨S8192x8192, .i32⟩
  | 43 => ⟨S_, .f32⟩
  | 44 => ⟨S_, .i32⟩
  | 45 => ⟨S8192, .f32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S1, .i32⟩
  | 56 => ⟨S_, .i32⟩
  | 57 => ⟨S8192x1, .i32⟩
  | 58 => ⟨S8192x1, .i1⟩
  | 59 => ⟨S1x1, .i32⟩
  | 60 => ⟨S8192x1, .i32⟩
  | 61 => ⟨S8192x1, .i1⟩
  | 62 => ⟨S8192x1, .i1⟩
  | 63 => ⟨S_, .i1⟩
  | 64 => ⟨S8192, .i1⟩
  | 65 => ⟨S8192x256, .f32⟩
  | 66 => ⟨S8192x256, .i1⟩
  | 67 => ⟨S_, .f32⟩
  | 68 => ⟨S8192x256, .f32⟩
  | 69 => ⟨S8192x256, .f32⟩
  | 70 => ⟨S8192x256, .f32⟩
  | 71 => ⟨S8192x256, .f32⟩
  | 72 => ⟨S8192x1, .i32⟩
  | 73 => ⟨S8192x1, .i32⟩
  | 74 => ⟨S8192x1, .i32⟩
  | 75 => ⟨S8192x1, .i32⟩
  | 76 => ⟨S8192x4, .i32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call2_v0 : Ref sig .tc := ⟨.hbm, 72, rfl⟩
abbrev main_call2_cst : Ref sig .tc := ⟨.hbm, 73, rfl⟩
abbrev main_call2_c : Ref sig .tc := ⟨.hbm, 74, rfl⟩
abbrev main_call2_v1_0 : Ref sig .tc := ⟨.hbm, 75, rfl⟩
abbrev main_v37 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_6 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_7 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_8 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_call4_v0 : Ref sig .tc := ⟨.hbm, 121, rfl⟩
abbrev main_call4_cst : Ref sig .tc := ⟨.hbm, 122, rfl⟩
abbrev main_call4_c : Ref sig .tc := ⟨.hbm, 123, rfl⟩
abbrev main_call4_v1_0 : Ref sig .tc := ⟨.hbm, 124, rfl⟩
abbrev main_v57 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_call5_cst : Ref sig .tc := ⟨.hbm, 146, rfl⟩
abbrev main_call5_v15 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_cst_9 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_cst_10 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_cst_11 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_call6_v0 : Ref sig .tc := ⟨.hbm, 170, rfl⟩
abbrev main_call6_cst : Ref sig .tc := ⟨.hbm, 171, rfl⟩
abbrev main_call6_c : Ref sig .tc := ⟨.hbm, 172, rfl⟩
abbrev main_call6_v1_0 : Ref sig .tc := ⟨.hbm, 173, rfl⟩
abbrev main_v77 : Ref sig .tc := ⟨.hbm, 174, rfl⟩
abbrev main_call7_c : Ref sig .tc := ⟨.hbm, 175, rfl⟩
abbrev main_call7_v0 : Ref sig .tc := ⟨.hbm, 176, rfl⟩
abbrev main_call7_v1 : Ref sig .tc := ⟨.hbm, 177, rfl⟩
abbrev main_call7_c_0 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_c_1 : Ref sig .tc := ⟨.hbm, 183, rfl⟩
abbrev main_call7_c_2 : Ref sig .tc := ⟨.hbm, 184, rfl⟩
abbrev main_call7_v6 : Ref sig .tc := ⟨.hbm, 185, rfl⟩
abbrev main_call7_v7 : Ref sig .tc := ⟨.hbm, 186, rfl⟩
abbrev main_call7_v8 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_c_3 : Ref sig .tc := ⟨.hbm, 191, rfl⟩
abbrev main_call7_v12 : Ref sig .tc := ⟨.hbm, 192, rfl⟩
abbrev main_call7_v13 : Ref sig .tc := ⟨.hbm, 193, rfl⟩
abbrev main_call7_v14 : Ref sig .tc := ⟨.hbm, 194, rfl⟩
abbrev main_call7_cst : Ref sig .tc := ⟨.hbm, 195, rfl⟩
abbrev main_call7_v15 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩

abbrev nD : Nat := 1
abbrev τ : Topo := Topo.v7x

variable {F : FTy → Type} [FloatOps F]
-- ==== Proof.Spec.lean ====
/-
  What one call of the kernel computes, as plain functions of the four blocks it reads: a tile of 4096
  codes, a block of 512 residual rows, the tile's squared norms and the block's squared norms.
-/
module

public import proofs.«01_k».proof.Proof.Gen.KernelIdeal.Skeleton
public import Idealize.ShloMosaic.Lib.ValueIdxCore

@[expose] public section
noncomputable section
namespace Cert.Proof
open Cert.KernelIdeal Cert.KernelIdeal.Gen
open Idealize.ShloMosaic Idealize.ShloMosaic.ValueIdx

variable {F : FTy → Type} [FloatOps F] [Named F]

/-- Codes `64 n … 64 n + 63` of a tile. -/
def codeRows (X : Vec F S4096x256 .f32) (n : ℕ) : Vec F S64x256 .f32 :=
  fun y => X (ix2 ⟨(64 * n + (y 0).val) % 4096, Nat.mod_lt _ (by decide)⟩ (y 1))

/-- The squared norms of codes `64 n … 64 n + 63` of a tile. -/
def normRows (X : Vec F S4096x1 .f32) (n : ℕ) : Vec F S64x1 .f32 :=
  fun y => X (ix2 ⟨(64 * n + (y 0).val) % 4096, Nat.mod_lt _ (by decide)⟩ (y 1))

/-- The products of 64 codes with the 512 residual rows. -/
def dotRows (R : Vec F S512x256 .f32) (rows : Vec F S64x256 .f32) : FVec F S64x512 .f32 :=
  matmul dot_S64x256_S512x256_S64x512_1_1_0_0_n_n none
    (truncf .bf16 (shapeCast S64x256 rows shapeCasts_S64x256_S64x256) bitsLt_bf16_f32)
    (truncf .bf16 (shapeCast S512x256 R shapeCasts_S512x256_S512x256) bitsLt_bf16_f32) (constant S64x512 .f32 0x00000000#32)

/-- The scores of 64 codes: both squared norms less twice the products. -/
def scoreRows (N : Vec F S1x512 .f32) (D : FVec F S64x512 .f32) (e2 : Vec F S64x1 .f32) : FVec F S64x512 .f32 :=
  subf (addf (broadcastTo S64x512 (shapeCast S1x512 N shapeCasts_S1x512_S1x512) broadcasts_S1x512_S64x512)
      (broadcastTo S64x512 (shapeCast S64x1 e2 shapeCasts_S64x1_S64x1) broadcasts_S64x1_S64x512))
    (mulf (broadcast S64x512 (Scalar.ofBits .f32 0x40000000#32)) D)

/-- A running minimum and its code number, per sublane and lane. -/
abbrev Acc (F : FTy → Type) : Type := FVec F S8x512 .f32 × IVec S8x512 32

theorem slices8 (g : Fin 8) : S64x512.Slices ![8 * g.val, 0] S8x512 := by
  revert g; decide

/-- Rows `8 g … 8 g + 7` of 64 scores put into the running minimum: a strictly smaller score replaces the kept one. -/
def group (w : BitVec 32) (sc : FVec F S64x512 .f32) (g : Fin 8) (a : Acc F) : Acc F :=
  (minimumf a.1 (extractStridedSlice S8x512 ![8 * g.val, 0] sc (slices8 g)),
    select (cmpf .olt (extractStridedSlice S8x512 ![8 * g.val, 0] sc (slices8 g)) a.1)
      (addi (iota .tc S8x512 32 [0] iota_S8x512_d0_w32) (broadcast S8x512 (Scalar.addi w (BitVec.ofNat 32 (8 * g.val))))) a.2)

/-- All eight groups of 64 scores. -/
def chunk (w : BitVec 32) (sc : FVec F S64x512 .f32) (a : Acc F) : Acc F :=
  group w sc 7 (group w sc 6 (group w sc 5 (group w sc 4 (group w sc 3 (group w sc 2 (group w sc 1 (group w sc 0 a)))))))

/-- The running minimum after the first `n` chunks of a tile whose first code is number `kb`. -/
def chunks (kb : BitVec 32) (X2 : Vec F S4096x256 .f32) (X3 : Vec F S512x256 .f32) (X4 : Vec F S4096x1 .f32)
    (X5 : Vec F S1x512 .f32) : ℕ → Acc F
  | 0 => (k1_pay39 (F := F), broadcast S8x512 0#32)
  | n + 1 => chunk (Scalar.addi kb (BitVec.ofNat 32 (64 * n))) (scoreRows X5 (dotRows X3 (codeRows X2 n)) (normRows X4 n))
      (chunks kb X2 X3 X4 X5 n)

/-- The least of the eight sublanes, per lane. -/
def laneMin (a : Acc F) : FVec F S1x512 .f32 :=
  shapeCast S1x512 (multiReduction .minimumf [0] S512 a.1 0x7F800000#32 reduces_S8x512_S512 (.inl rfl) rfl) shapeCasts_S512_S1x512

/-- The least code number among the sublanes that attain the lane's minimum. -/
def laneArg (a : Acc F) : IVec S1x512 32 :=
  shapeCast S1x512 (multiReductionI .minsi [0] S512
    (select (cmpf .oeq a.1 (broadcastTo S8x512 (laneMin a) broadcasts_S1x512_S8x512)) a.2 (broadcast S8x512 8192#32))
    2147483647#32 reduces_S8x512_S512 rfl) shapeCasts_S512_S1x512

/-- The minimum and its code number over one tile. -/
def tile (kb : BitVec 32) (X2 : Vec F S4096x256 .f32) (X3 : Vec F S512x256 .f32) (X4 : Vec F S4096x1 .f32)
    (X5 : Vec F S1x512 .f32) : Acc F := chunks kb X2 X3 X4 X5 64

/-- The bit that says the tile's minimum is strictly less than the kept one, which passes through bf16. -/
def less (w : FVec F S1x512 .f32) (old : Vec F S1x512 .f32) : IVec S1x512 1 :=
  cmpf .olt w (extf .f32 (truncf .bf16 old bitsLt_bf16_f32) bitsLt_bf16_f32)

/-- The minimum kept after a later tile. -/
def keepMin (w : FVec F S1x512 .f32) (old : Vec F S1x512 .f32) : FVec F S1x512 .f32 :=
  select (less w old) w (extf .f32 (truncf .bf16 old bitsLt_bf16_f32) bitsLt_bf16_f32)

/-- The code number kept after a later tile. -/
def keepArg (w : FVec F S1x512 .f32) (n : IVec S1x512 32) (old : Vec F S1x512 .f32) (oldn : Vec F S1x512 .i32) : IVec S1x512 32 :=
  select (less w old) n oldn

end Cert.Proof
end
-- ==== Proof.Trip.lean ====
/-
  One trip of the kernel's loop: two chunks put into the running minimum, and the next chunk's products.
-/
module

public import proofs.«01_k».proof.Proof.Spec
public import proofs.«01_k».proof.Proof.Gen.KernelIdeal.Loops
public import Idealize.ShloMosaic.Lib.Tactic
public import Idealize.ShloMosaic.Lib.VecWindow

@[expose] public section
noncomputable section
namespace Cert.Proof
open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

section reads
variable {κ : Kind} {sp : Space}

/-- A load of 64 codes at row `64 n` reads chunk `n` of the tile. -/
theorem read_codeRows (v : View sig κ sp S4096x256 .f32) (f : v.ty.Contents (Elt F)) (n : ℕ) (hn : n < 64) (off : Fin 2 → ℕ)
    (inb : ∀ a, off a + S64x256.size a ≤ S4096x256.size a) (h : off = ![64 * n, 0]) :
    v.readAt (Elt F) (Rect.unit (s := S4096x256) off S64x256.size inb).toLoadRect f = codeRows (v.read (Elt F) f) n := by
  subst h
  funext y
  refine congrArg (v.read (Elt F) f) (funext fun a => Fin.ext ?_)
  have hy : (y 0).val < 64 := (y 0).isLt
  match a with
  | ⟨0, _⟩ => show 64 * n + 1 * (y 0).val = (64 * n + (y 0).val) % 4096; rw [Nat.mod_eq_of_lt (by omega)]; omega
  | ⟨1, _⟩ => show 0 + 1 * (y 1).val = (y 1).val; omega

/-- A load of 64 squared norms at row `64 n` reads those of chunk `n`. -/
theorem read_normRows (v : View sig κ sp S4096x1 .f32) (f : v.ty.Contents (Elt F)) (n : ℕ) (hn : n < 64) (off : Fin 2 → ℕ)
    (inb : ∀ a, off a + S64x1.size a ≤ S4096x1.size a) (h : off = ![64 * n, 0]) :
    v.readAt (Elt F) (Rect.unit (s := S4096x1) off S64x1.size inb).toLoadRect f = normRows (v.read (Elt F) f) n := by
  subst h
  funext y
  refine congrArg (v.read (Elt F) f) (funext fun a => Fin.ext ?_)
  have hy : (y 0).val < 64 := (y 0).isLt
  match a with
  | ⟨0, _⟩ => show 64 * n + 1 * (y 0).val = (64 * n + (y 0).val) % 4096; rw [Nat.mod_eq_of_lt (by omega)]; omega
  | ⟨1, _⟩ => show 0 + 1 * (y 1).val = (y 1).val; omega

end reads

/-- The loop's induction variable at trip `k`, as the kernel's words. -/
def ivw (k : Fin k1_t1_loop.trips) : BitVec 32 := Scf.iv 1#32 1#32 k

theorem word_odd : ∀ k : Fin k1_t1_loop.trips,
    Scalar.muli (Scalar.subi (Scalar.muli 2#32 (ivw k)) 1#32) 64#32 = BitVec.ofNat 32 (64 * (2 * k.val + 1)) := by decide +kernel
theorem word_even : ∀ k : Fin k1_t1_loop.trips,
    Scalar.muli (Scalar.muli 2#32 (ivw k)) 64#32 = BitVec.ofNat 32 (64 * (2 * k.val + 2)) := by decide +kernel

/-- What a trip yields, over the vectors it loads. -/
def tripVal (kb : BitVec 32) (R : Vec F S512x256 .f32) (N : Vec F S1x512 .f32) (k : Fin k1_t1_loop.trips)
    (acc : FVec F S8x512 .f32 × IVec S8x512 32 × FVec F S64x512 .f32) (ra rb : Vec F S64x256 .f32) (na nb : Vec F S64x1 .f32) :
    FVec F S8x512 .f32 × IVec S8x512 32 × FVec F S64x512 .f32 :=
  let a := chunk (Scalar.addi kb (Scalar.muli (Scalar.subi (Scalar.muli 2#32 (ivw k)) 1#32) 64#32)) (scoreRows N acc.2.2 na) (acc.1, acc.2.1)
  let b := chunk (Scalar.addi kb (Scalar.muli (Scalar.muli 2#32 (ivw k)) 64#32)) (scoreRows N (dotRows R ra) nb) a
  (b.1, b.2, dotRows R rb)

set_option maxHeartbeats 2000000

theorem trip_run (c : Dev nD) (i : grid1.Coords)
    (arg2 : Memref sig .tc .vmem S4096x256 .f32) (harg2 : arg2.IsWhole) (arg3 : Memref sig .tc .vmem S512x256 .f32) (harg3 : arg3.IsWhole)
    (arg4 : Memref sig .tc .vmem S4096x1 .f32) (harg4 : arg4.IsWhole) (arg5 : Memref sig .tc .vmem S1x512 .f32) (harg5 : arg5.IsWhole)
    (arg6 : Memref sig .tc .vmem S1x1x512 .i32) (harg6 : arg6.IsWhole) (arg7 : Memref sig .tc .vmem S1x8192 .f32) (harg7 : arg7.IsWhole)
    (arg8 : Memref sig .tc .vmem S1x8192 .i32) (harg8 : arg8.IsWhole)
    (R : Vec F S512x256 .f32) (N : Vec F S1x512 .f32) (kb : BitVec 32) (v84 : FVec F S8x512 .f32) (v85 : IVec S8x512 32)
    (f2 : BufTy.Contents (Elt F) arg2.view.ty) (f4 : BufTy.Contents (Elt F) arg4.view.ty) (k : Fin k1_t1_loop.trips) (E : Set ℕ)
    (acc : FVec F S8x512 .f32 × IVec S8x512 32 × FVec F S64x512 .f32) :
    (iprop((arg2.view.loc (c : Thread nD τ) ↦[arg2.view.set]{fullShare} f2) ∗ (arg4.view.loc (c : Thread nD τ) ↦[arg4.view.set]{fullShare} f4)) : sProp 𝕄)
      ⊢ wp frame (wpE (defs₀ (F := F)) Variants.none (c : Thread nD τ) none) E
          (k1_t1_body (F := F) i arg2 harg2 arg3 harg3 arg4 harg4 arg5 harg5 arg6 harg6 arg7 harg7 arg8 harg8
            (k1_pay37 R) (k1_pay38 N) (iota .tc S8x512 32 [0] iota_S8x512_d0_w32) kb v84 v85 k acc)
          (fun y => iprop(⌜y = tripVal kb R N k acc (codeRows (arg2.view.read (Elt F) f2) (2 * k.val + 2)) (codeRows (arg2.view.read (Elt F) f2) (2 * k.val + 3))
              (normRows (arg4.view.read (Elt F) f4) (2 * k.val + 1)) (normRows (arg4.view.read (Elt F) f4) (2 * k.val + 2))⌝
            ∗ (arg2.view.loc (c : Thread nD τ) ↦[arg2.view.set]{fullShare} f2) ∗ (arg4.view.loc (c : Thread nD τ) ↦[arg4.view.set]{fullShare} f4))) := by
  have hk : k.val < 31 := Nat.lt_of_lt_of_le k.isLt k1_t1_abs.2.1
  obtain ⟨m, n, D⟩ := acc
  unfold k1_t1_body
  simp only [k1_part1_eq_skeleton, k1_part2_eq_skeleton, k1_part3_eq_skeleton]
  unfold k1_part1_skel k1_part2_skel k1_part3_skel
  iintro ⟨H2, H4⟩
  sl_exec
  sl_step
  isplitr; swap
  · isplitl [H2]; · iexact H2
    iexact H4
  ipureintro
  rw [read_codeRows _ _ (2 * k.val + 2) (by omega) _ _ ((k1_off1_eq k).trans (by congr 1; omega)),
    read_codeRows _ _ (2 * k.val + 3) (by omega) _ _ ((k1_off2_eq k).trans (by congr 1; omega)),
    read_normRows _ _ (2 * k.val + 1) (by omega) _ _ ((k1_off3_eq k).trans (by congr 1; omega)),
    read_normRows _ _ (2 * k.val + 2) (by omega) _ _ ((k1_off4_eq k).trans (by congr 1; omega))]
  rfl

end Cert.Proof
end
-- ==== Proof.Body.lean ====
/-
  The kernel body run once: what it leaves in the two scratch rows and in the output block.
-/
module

public import proofs.«01_k».proof.Proof.Trip
public import Idealize.ShloMosaic.Lib.Pointwise.Reshape

@[expose] public section
noncomputable section
namespace Cert.Proof
open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

theorem cond1_iff : ∀ i : grid1.Coords, k1_cond1 i = 1#1 ↔ (i 0).val = 0 := by decide +kernel
theorem cond2_iff : ∀ i : grid1.Coords, k1_cond2 i = 1#1 ↔ (i 0).val = 1 := by decide +kernel
theorem cond3_iff : ∀ i : grid1.Coords, k1_cond3 i = 1#1 ↔ (i 0).val = 1 := by decide +kernel

/-- Lanes `512 b … 512 b + 511` of a scratch row. -/
def slot {e : EltTy} (x : Vec F S1x8192 e) (b : ℕ) : Vec F S1x512 e :=
  fun y => x (Idealize.ShloMosaic.ix2 (y 0) ⟨(512 * b + (y 1).val) % 8192, Nat.mod_lt _ (by decide)⟩)

/-- A scratch row with lanes `512 b … 512 b + 511` replaced. -/
def setSlot {e : EltTy} (x : Vec F S1x8192 e) (b : ℕ) (w : Vec F S1x512 e) : Vec F S1x8192 e :=
  VecWindow.put x ![0, 512 * b] S1x512.size w

theorem slot_setSlot {e : EltTy} (x : Vec F S1x8192 e) (b : ℕ) (hb : b < 16) (w : Vec F S1x512 e) : slot (setSlot x b w) b = w := by
  funext y
  have h1 : (y 1).val < 512 := (y 1).isLt
  have h0 : (y 0).val < 1 := (y 0).isLt
  unfold slot setSlot VecWindow.put
  rw [dif_pos (by
    intro a
    match a with
    | ⟨0, _⟩ => exact ⟨Nat.zero_le _, by show (y 0).val < 0 + 1; omega⟩
    | ⟨1, _⟩ => exact ⟨by show 512 * b ≤ (512 * b + (y 1).val) % 8192; omega, by show (512 * b + (y 1).val) % 8192 < 512 * b + 512; omega⟩)]
  refine congrArg w (funext fun a => Fin.ext ?_)
  match a with
  | ⟨0, _⟩ => show (y 0).val - 0 = (y 0).val; omega
  | ⟨1, _⟩ => show (512 * b + (y 1).val) % 8192 - 512 * b = (y 1).val; omega

theorem slot_setSlot_ne {e : EltTy} (x : Vec F S1x8192 e) (b b' : ℕ) (hb : b < 16) (hb' : b' < 16) (h : b' ≠ b) (w : Vec F S1x512 e) :
    slot (setSlot x b w) b' = slot x b' := by
  funext y
  have h1 : (y 1).val < 512 := (y 1).isLt
  unfold slot setSlot VecWindow.put
  rw [dif_neg (by
    intro hall
    have := hall 1
    have e1 : 512 * b ≤ (512 * b' + (y 1).val) % 8192 ∧ (512 * b' + (y 1).val) % 8192 < 512 * b + 512 := this
    omega)]

section reads
variable {κ : Kind} {sp : Space} {e : EltTy}

/-- A load of 512 lanes at lane `512 b` reads slot `b`. -/
theorem read_slot (v : View sig κ sp S1x8192 e) (f : v.ty.Contents (Elt F)) (b : ℕ) (hb : b < 16) (off : Fin 2 → ℕ)
    (inb : ∀ a, off a + S1x512.size a ≤ S1x8192.size a) (h : off = ![0, 512 * b]) :
    v.readAt (Elt F) (Rect.unit (s := S1x8192) off S1x512.size inb).toLoadRect f = slot (v.read (Elt F) f) b := by
  subst h
  funext y
  refine congrArg (v.read (Elt F) f) (funext fun a => Fin.ext ?_)
  have hy : (y 1).val < 512 := (y 1).isLt
  match a with
  | ⟨0, _⟩ => show 0 + 1 * (y 0).val = (y 0).val; omega
  | ⟨1, _⟩ => show 512 * b + 1 * (y 1).val = (512 * b + (y 1).val) % 8192; rw [Nat.mod_eq_of_lt (by omega)]; omega
end reads

/-- After a store of 512 lanes at lane `512 b` the row is the old one with slot `b` replaced. -/
theorem store_slot {κ : Kind} {sp : Space} {e : EltTy} (v : View sig κ sp S1x8192 e) (f : v.ty.Contents (Elt F)) (b : ℕ) (off : Fin 2 → ℕ)
    (inb : ∀ a, off a + S1x512.size a ≤ S1x8192.size a) (h : off = ![0, 512 * b]) (x : Vec F S1x8192 e) (hx : v.read (Elt F) f = x)
    (p : (Rect.unit (s := S1x8192) off S1x512.size inb).shape.Idx → Elt F e) (w : Vec F S1x512 e) (hp : p = w) :
    v.read (Elt F) (v.writes (Elt F) f [⟨Rect.unit off S1x512.size inb, p⟩]) = setSlot x b w := by
  subst hp hx
  exact View.read_writes_cons_put v f inb p [] h

/-- A load of slot `b` after a store into it reads what was stored. -/
theorem reload_slot {κ : Kind} {sp : Space} {e : EltTy} (v : View sig κ sp S1x8192 e) (b : ℕ) (hb : b < 16) (off off' : Fin 2 → ℕ)
    (inb : ∀ a, off a + S1x512.size a ≤ S1x8192.size a) (h : off = ![0, 512 * b])
    (inb' : ∀ a, off' a + S1x512.size a ≤ S1x8192.size a) (h' : off' = ![0, 512 * b])
    (p : (Rect.unit (s := S1x8192) off S1x512.size inb).shape.Idx → Elt F e) (w : Vec F S1x512 e) (hp : p = w) :
    v.readCov [⟨Rect.unit off S1x512.size inb, p⟩] (Rect.unit (s := S1x8192) off' S1x512.size inb').toLoadRect = w := by
  unfold View.readCov
  refine (read_slot v _ b hb off' inb' h').trans ?_
  rw [store_slot v _ b off inb h _ rfl p w hp, slot_setSlot _ b hb]

/-- The first code number of a grid point's tile. -/
def kbase (i : grid1.Coords) : BitVec 32 := Scalar.muli (BitVec.ofNat 32 (i 0).val) 4096#32

/-- The running minimum before trip `k`, with the products of the chunk it begins with. -/
def carry (kb : BitVec 32) (X2 : Vec F S4096x256 .f32) (X3 : Vec F S512x256 .f32) (X4 : Vec F S4096x1 .f32)
    (X5 : Vec F S1x512 .f32) (k : ℕ) : FVec F S8x512 .f32 × IVec S8x512 32 × FVec F S64x512 .f32 :=
  ((chunks kb X2 X3 X4 X5 (2 * k + 1)).1, (chunks kb X2 X3 X4 X5 (2 * k + 1)).2, dotRows X3 (codeRows X2 (2 * k + 1)))

theorem carry_succ (kb : BitVec 32) (X2 : Vec F S4096x256 .f32) (X3 : Vec F S512x256 .f32) (X4 : Vec F S4096x1 .f32)
    (X5 : Vec F S1x512 .f32) (k : Fin k1_t1_loop.trips) :
    tripVal kb X3 X5 k (carry kb X2 X3 X4 X5 k.val) (codeRows X2 (2 * k.val + 2)) (codeRows X2 (2 * k.val + 3))
      (normRows X4 (2 * k.val + 1)) (normRows X4 (2 * k.val + 2)) = carry kb X2 X3 X4 X5 (k.val + 1) := by
  unfold tripVal
  rw [word_odd, word_even]
  rfl

/-- What the minimum's row holds after a point. -/
def nextMin (i : grid1.Coords) (X2 : Vec F S4096x256 .f32) (X3 : Vec F S512x256 .f32) (X4 : Vec F S4096x1 .f32)
    (X5 : Vec F S1x512 .f32) (G : Vec F S1x8192 .f32) : Vec F S1x8192 .f32 :=
  setSlot G (i 1).val (if (i 0).val = 0 then laneMin (tile (kbase i) X2 X3 X4 X5)
    else keepMin (laneMin (tile (kbase i) X2 X3 X4 X5)) (slot G (i 1).val))

/-- What the code number's row holds after a point. -/
def nextArg (i : grid1.Coords) (X2 : Vec F S4096x256 .f32) (X3 : Vec F S512x256 .f32) (X4 : Vec F S4096x1 .f32)
    (X5 : Vec F S1x512 .f32) (G : Vec F S1x8192 .f32) (J : Vec F S1x8192 .i32) : Vec F S1x8192 .i32 :=
  setSlot J (i 1).val (if (i 0).val = 0 then laneArg (tile (kbase i) X2 X3 X4 X5)
    else keepArg (laneMin (tile (kbase i) X2 X3 X4 X5)) (laneArg (tile (kbase i) X2 X3 X4 X5)) (slot G (i 1).val) (slot J (i 1).val))

/-- The output block of a point of the second tile: the code numbers kept. -/
def outCodes (i : grid1.Coords) (X2 : Vec F S4096x256 .f32) (X3 : Vec F S512x256 .f32) (X4 : Vec F S4096x1 .f32)
    (X5 : Vec F S1x512 .f32) (G : Vec F S1x8192 .f32) (J : Vec F S1x8192 .i32) : Vec F S1x1x512 .i32 :=
  shapeCast S1x1x512 (keepArg (laneMin (tile (kbase i) X2 X3 X4 X5)) (laneArg (tile (kbase i) X2 X3 X4 X5)) (slot G (i 1).val) (slot J (i 1).val))
    shapeCasts_S1x512_S1x1x512

theorem trips_eq : Scf.trips k1_t1_loop.lb k1_t1_loop.ub k1_t1_loop.st = 31 := by decide +kernel

/-- The minimum's payload after the last chunk is the tile's. -/
theorem last_min (kb : BitVec 32) (X2 : Vec F S4096x256 .f32) (X3 : Vec F S512x256 .f32) (X4 : Vec F S4096x1 .f32) (X5 : Vec F S1x512 .f32) :
    k1_pay90 (k1_pay70 (k1_pay38 X5) (carry kb X2 X3 X4 X5 31).2.2 (normRows X4 63))
      (k1_pay76 (k1_pay38 X5) (carry kb X2 X3 X4 X5 31).1 (carry kb X2 X3 X4 X5 31).2.2 (normRows X4 63))
      (k1_pay78 (k1_pay38 X5) (carry kb X2 X3 X4 X5 31).2.2 (normRows X4 63)) = laneMin (tile kb X2 X3 X4 X5) := rfl

/-- The code number's payload after the last chunk is the tile's. -/
theorem last_arg (kb : BitVec 32) (X2 : Vec F S4096x256 .f32) (X3 : Vec F S512x256 .f32) (X4 : Vec F S4096x1 .f32) (X5 : Vec F S1x512 .f32) :
    k1_pay91 (iota .tc S8x512 32 [0] iota_S8x512_d0_w32) kb (k1_pay70 (k1_pay38 X5) (carry kb X2 X3 X4 X5 31).2.2 (normRows X4 63))
      (k1_pay76 (k1_pay38 X5) (carry kb X2 X3 X4 X5 31).1 (carry kb X2 X3 X4 X5 31).2.2 (normRows X4 63))
      (k1_pay77 (k1_pay38 X5) (iota .tc S8x512 32 [0] iota_S8x512_d0_w32) kb (carry kb X2 X3 X4 X5 31).1 (carry kb X2 X3 X4 X5 31).2.1
        (carry kb X2 X3 X4 X5 31).2.2 (normRows X4 63))
      (k1_pay78 (k1_pay38 X5) (carry kb X2 X3 X4 X5 31).2.2 (normRows X4 63))
      (k1_pay79 (iota .tc S8x512 32 [0] iota_S8x512_d0_w32) kb)
      (k1_pay80 (k1_pay38 X5) (carry kb X2 X3 X4 X5 31).1 (carry kb X2 X3 X4 X5 31).2.2 (normRows X4 63))
      = laneArg (tile kb X2 X3 X4 X5) := rfl

theorem pay92_eq (a : FVec F S64x512 .f32) (b d : FVec F S8x512 .f32) : k1_pay92 a b d = k1_pay90 a b d := shapeCast_id _ _
theorem pay93_eq (v6 : IVec S8x512 32) (v7 : BitVec 32) (a : FVec F S64x512 .f32) (b : FVec F S8x512 .f32) (n : IVec S8x512 32) (d : FVec F S8x512 .f32)
    (p : IVec S8x512 32) (q : IVec S8x512 1) : k1_pay93 v6 v7 a b n d p q = k1_pay91 v6 v7 a b n d p q := shapeCast_id _ _
theorem pay3_eq (w : FVec F S1x512 .f32) (old : Vec F S1x512 .f32) : k1_pay3 w old = keepMin w old := shapeCast_id _ _
theorem pay4_eq (w : FVec F S1x512 .f32) (n : IVec S1x512 32) (old : Vec F S1x512 .f32) (oldn : Vec F S1x512 .i32) :
    k1_pay4 w n old oldn = keepArg w n old oldn := shapeCast_id _ _

set_option maxHeartbeats 4000000
set_option maxRecDepth 4096

/-- One run of the body: the tile's minimum and code number go into the point's lanes of the scratch rows; at a point of the
    second tile the code numbers kept also go into the output block, which a point of the first tile leaves. -/
theorem body_run (c : Dev nD) (i : grid1.Coords)
    (arg2 : Memref sig .tc .vmem S4096x256 .f32) (harg2 : arg2.IsWhole) (arg3 : Memref sig .tc .vmem S512x256 .f32) (harg3 : arg3.IsWhole)
    (arg4 : Memref sig .tc .vmem S4096x1 .f32) (harg4 : arg4.IsWhole) (arg5 : Memref sig .tc .vmem S1x512 .f32) (harg5 : arg5.IsWhole)
    (arg6 : Memref sig .tc .vmem S1x1x512 .i32) (harg6 : arg6.IsWhole) (arg7 : Memref sig .tc .vmem S1x8192 .f32) (harg7 : arg7.IsWhole)
    (arg8 : Memref sig .tc .vmem S1x8192 .i32) (harg8 : arg8.IsWhole)
    (X2 : Vec F S4096x256 .f32) (X3 : Vec F S512x256 .f32) (X4 : Vec F S4096x1 .f32) (X5 : Vec F S1x512 .f32) (X6 : Vec F S1x1x512 .i32)
    (G : Vec F S1x8192 .f32) (J : Vec F S1x8192 .i32) (E : Set ℕ) (Q : PUnit → sProp 𝕄) :
    (iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare G ∗ owns (c : Thread nD τ) arg8 fullShare J
        ∗ (iprop(owns (c : Thread nD τ) arg2 fullShare X2 ∗ owns (c : Thread nD τ) arg3 fullShare X3 ∗ owns (c : Thread nD τ) arg4 fullShare X4
            ∗ owns (c : Thread nD τ) arg5 fullShare X5
            ∗ owns (c : Thread nD τ) arg6 fullShare (if (i 0).val = 0 then X6 else outCodes i X2 X3 X4 X5 G J)
            ∗ owns (c : Thread nD τ) arg7 fullShare (nextMin i X2 X3 X4 X5 G)
            ∗ owns (c : Thread nD τ) arg8 fullShare (nextArg i X2 X3 X4 X5 G J)) -∗ Q ⟨⟩)) : sProp 𝕄)
      ⊢ wp frame (wpE (defs₀ (F := F)) Variants.none (c : Thread nD τ) none) E
          (cc1__argmin_body i arg2 harg2 arg3 harg3 arg4 harg4 arg5 harg5 arg6 harg6 arg7 harg7 arg8 harg8) Q := by
  simp only [cc1__argmin_body_eq_skeleton]; unfold cc1__argmin_body_skel
  simp only [k1_part4_eq_skeleton, k1_part5_eq_skeleton, k1_part6_eq_skeleton, k1_part7_eq_skeleton]
  unfold k1_part4_skel k1_part5_skel k1_part6_skel k1_part7_skel
  simp only [Prog.lift, Prog.bind_op, Prog.bind_ret, Prog.bind_assoc, Prog.pure_eq_ret]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  have hb : (i 1).val < 16 := (i 1).isLt
  have r3 : arg3.view.readAt (Elt F) (Rect.unit (s := S512x256) ![0, 0] S512x256.size inb_S512x256_S512x256_0_0).toLoadRect f3 = X3 :=
    (View.readAt_full arg3.view f3 _).trans e3
  have r5 : arg5.view.readAt (Elt F) (Rect.unit (s := S1x512) ![0, 0] S1x512.size inb_S1x512_S1x512_0_0).toLoadRect f5 = X5 :=
    (View.readAt_full arg5.view f5 _).trans e5
  sl_step; sl_step; sl_step; sl_step; sl_step
  sl_for (fun k acc => iprop((arg2.view.loc (c : Thread nD τ) ↦[arg2.view.set]{fullShare} f2)
      ∗ (arg4.view.loc (c : Thread nD τ) ↦[arg4.view.set]{fullShare} f4) ∗ ⌜acc = carry (kbase i) X2 X3 X4 X5 k⌝)) $$ [H2 H4]
  case region =>
    intro k acc
    iintro ⟨H2, H4, %ha⟩
    iapply (wp_wand_r Idealize.ShloMosaic.frame (wpE (defs₀ (F := F)) Variants.none (c : Thread nD τ) none) E)
    isplitl [H2 H4]
    · iapply (trip_run c i arg2 harg2 arg3 harg3 arg4 harg4 arg5 harg5 arg6 harg6 arg7 harg7 arg8 harg8
        (arg3.view.readAt (Elt F) (Rect.unit (s := S512x256) ![0, 0] S512x256.size inb_S512x256_S512x256_0_0).toLoadRect f3)
        (arg5.view.readAt (Elt F) (Rect.unit (s := S1x512) ![0, 0] S1x512.size inb_S1x512_S1x512_0_0).toLoadRect f5)
        (kbase i) _ _ f2 f4 k E acc)
      isplitl [H2]; · iexact H2
      iexact H4
    · iintro %y ⟨%hy, H2, H4⟩
      isplitl [H2]; · iexact H2
      isplitl [H4]; · iexact H4
      ipureintro
      rw [hy, ha, r3, r5, e2, e4, carry_succ]
  · isplitl [H2]; · iexact H2
    isplitl [H4]; · iexact H4
    ipureintro
    rw [r3, r5, read_codeRows arg2.view f2 0 (by omega) _ _ rfl, read_codeRows arg2.view f2 1 (by omega) _ _ rfl,
      read_normRows arg4.view f4 0 (by omega) _ _ rfl, e2, e4]
    rfl
  iintro %acc ⟨H2, H4, %ha⟩
  have r4 : arg4.view.readAt (Elt F) (Rect.unit (s := S4096x1) ![4032, 0] S64x1.size inb_S4096x1_S64x1_4032_0).toLoadRect f4 = normRows X4 63 :=
    (read_normRows arg4.view f4 63 (by omega) _ _ rfl).trans (by rw [e4])
  have hm : k1_pay90 (k1_pay70 (k1_pay38 (arg5.view.readAt (Elt F) (Rect.unit (s := S1x512) ![0, 0] S1x512.size inb_S1x512_S1x512_0_0).toLoadRect f5)) acc.2.2 (normRows X4 63)) (k1_pay76 (k1_pay38 (arg5.view.readAt (Elt F) (Rect.unit (s := S1x512) ![0, 0] S1x512.size inb_S1x512_S1x512_0_0).toLoadRect f5)) acc.1 acc.2.2 (normRows X4 63))
      (k1_pay78 (k1_pay38 (arg5.view.readAt (Elt F) (Rect.unit (s := S1x512) ![0, 0] S1x512.size inb_S1x512_S1x512_0_0).toLoadRect f5)) acc.2.2 (normRows X4 63)) = laneMin (tile (kbase i) X2 X3 X4 X5) := by
    rw [r5, ha, trips_eq]; exact last_min _ _ _ _ _
  have hn : k1_pay91 (iota .tc S8x512 32 [0] iota_S8x512_d0_w32) (kbase i) (k1_pay70 (k1_pay38 (arg5.view.readAt (Elt F) (Rect.unit (s := S1x512) ![0, 0] S1x512.size inb_S1x512_S1x512_0_0).toLoadRect f5)) acc.2.2 (normRows X4 63))
      (k1_pay76 (k1_pay38 (arg5.view.readAt (Elt F) (Rect.unit (s := S1x512) ![0, 0] S1x512.size inb_S1x512_S1x512_0_0).toLoadRect f5)) acc.1 acc.2.2 (normRows X4 63))
      (k1_pay77 (k1_pay38 (arg5.view.readAt (Elt F) (Rect.unit (s := S1x512) ![0, 0] S1x512.size inb_S1x512_S1x512_0_0).toLoadRect f5)) (iota .tc S8x512 32 [0] iota_S8x512_d0_w32) (kbase i) acc.1 acc.2.1 acc.2.2 (normRows X4 63))
      (k1_pay78 (k1_pay38 (arg5.view.readAt (Elt F) (Rect.unit (s := S1x512) ![0, 0] S1x512.size inb_S1x512_S1x512_0_0).toLoadRect f5)) acc.2.2 (normRows X4 63)) (k1_pay79 (iota .tc S8x512 32 [0] iota_S8x512_d0_w32) (kbase i))
      (k1_pay80 (k1_pay38 (arg5.view.readAt (Elt F) (Rect.unit (s := S1x512) ![0, 0] S1x512.size inb_S1x512_S1x512_0_0).toLoadRect f5)) acc.1 acc.2.2 (normRows X4 63)) = laneArg (tile (kbase i) X2 X3 X4 X5) := by
    rw [r5, ha, trips_eq]; exact last_arg _ _ _ _ _
  by_cases hi : (i 0).val = 0
  · have h1 : k1_cond1 i = 1#1 := (cond1_iff i).mpr hi
    have h2 : ¬ k1_cond2 i = 1#1 := fun h => by have := (cond2_iff i).mp h; omega
    have h3 : ¬ k1_cond3 i = 1#1 := fun h => by have := (cond3_iff i).mp h; omega
    sl_exec
    sl_step
    iapply Hk
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; rw [if_pos hi]; exact e6
                    iexact H6
    isplitl [H7]
    · iexists _; isplitr; swap; · iexact H7
      ipureintro
      unfold nextMin
      rw [if_pos hi]
      exact store_slot arg7.view f7 (i 1).val _ _ (k1_off5_eq i) _ e7 _ _ ((pay92_eq _ _ _).trans hm)
    · iexists _; isplitr; swap; · iexact H8
      ipureintro
      unfold nextArg
      rw [if_pos hi]
      exact store_slot arg8.view f8 (i 1).val _ _ (k1_off5_eq i) _ e8 _ _ ((pay93_eq _ _ _ _ _ _ _ _).trans hn)
  · have h1 : ¬ k1_cond1 i = 1#1 := fun h => hi ((cond1_iff i).mp h)
    have hi1 : (i 0).val = 1 := by have : (i 0).val < 2 := (i 0).isLt; omega
    have h2 : k1_cond2 i = 1#1 := (cond2_iff i).mpr hi1
    have h3 : k1_cond3 i = 1#1 := (cond3_iff i).mpr hi1
    have h3' := fun old => (congrArg (k1_pay3 · old) hm).trans (pay3_eq _ _)
    have h4 := fun old oldn => (congrArg₂ (k1_pay4 · · old oldn) hm hn).trans (pay4_eq _ _ _ _)
    beta_reduce at h3' h4
    have r7 : arg7.view.readAt (Elt F) (Rect.unit (s := S1x8192) (k1_off6 i) S1x512.size (k1_off6_inb i h2)).toLoadRect f7 = slot G (i 1).val :=
      (read_slot arg7.view f7 (i 1).val hb _ _ (k1_off6_eq i)).trans (by rw [e7])
    have r8 : arg8.view.readAt (Elt F) (Rect.unit (s := S1x8192) (k1_off6 i) S1x512.size (k1_off6_inb i h2)).toLoadRect f8 = slot J (i 1).val :=
      (read_slot arg8.view f8 (i 1).val hb _ _ (k1_off6_eq i)).trans (by rw [e8])
    sl_exec
    sl_step
    iapply Hk
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]
    · iexists _; isplitr; swap; · iexact H6
      ipureintro
      rw [if_neg hi]
      sl_unfold_run_names
      dsimp only
      refine (View.read_writes_full arg6.view f6 _ _ []).trans (congrArg k1_pay5 ?_)
      exact reload_slot arg8.view (i 1).val hb _ _ _ (k1_off6_eq i) _ (k1_off7_eq i) _ _
        (h4 _ _)
    isplitl [H7]
    · iexists _; isplitr; swap; · iexact H7
      ipureintro
      unfold nextMin
      rw [if_neg hi]
      sl_unfold_run_names
      dsimp only
      exact store_slot arg7.view f7 (i 1).val _ _ (k1_off6_eq i) _ e7 _ _ (h3' _)
    · iexists _; isplitr; swap; · iexact H8
      ipureintro
      unfold nextArg
      rw [if_neg hi]
      sl_unfold_run_names
      dsimp only
      exact store_slot arg8.view f8 (i 1).val _ _ (k1_off6_eq i) _ e8 _ _
        (h4 _ _)

end Cert.Proof
end
-- ==== Proof.Level.lean ====
/-
  One level of the quantizer as a function of the four arrays a launch reads: the codes, the residual, the
  codes' squared norms and the residual's squared norms. The launch visits the two tiles of codes in turn, and for
  each the sixteen blocks of residual rows.
-/
module

public import proofs.«01_k».proof.Proof.Body

@[expose] public section
noncomputable section
namespace Cert.Proof
open Cert.KernelIdeal Cert.KernelIdeal.Gen
open Idealize.ShloMosaic Idealize.ShloMosaic.ValueIdx

variable {F : FTy → Type} [FloatOps F] [Named F]

/-- Tile `k` of the codes. -/
def tileE (E : Vec F S8192x256 .f32) (k : ℕ) : Vec F S4096x256 .f32 :=
  fun y => E (Idealize.ShloMosaic.ix2 ⟨(4096 * k + (y 0).val) % 8192, Nat.mod_lt _ (by decide)⟩ (y 1))

/-- Block `b` of the residual rows. -/
def blockR (R : Vec F S8192x256 .f32) (b : ℕ) : Vec F S512x256 .f32 :=
  fun y => R (Idealize.ShloMosaic.ix2 ⟨(512 * b + (y 0).val) % 8192, Nat.mod_lt _ (by decide)⟩ (y 1))

/-- Tile `k` of the codes' squared norms. -/
def tileN (N : Vec F S8192x1 .f32) (k : ℕ) : Vec F S4096x1 .f32 :=
  fun y => N (Idealize.ShloMosaic.ix2 ⟨(4096 * k + (y 0).val) % 8192, Nat.mod_lt _ (by decide)⟩ (y 1))

/-- A level's four arrays. -/
structure Arrays (F : FTy → Type) where
  E : Vec F S8192x256 .f32
  R : Vec F S8192x256 .f32
  N : Vec F S8192x1 .f32
  D : Vec F S1x8192 .f32

/-- The running minimum of tile `k` over block `b`. -/
def tileAcc (A : Arrays F) (k b : ℕ) : Acc F :=
  tile (Scalar.muli (BitVec.ofNat 32 k) 4096#32) (tileE A.E k) (blockR A.R b) (tileN A.N k) (slot A.D b)

/-- The code numbers of block `b`: the second tile's where its minimum is strictly less than the first's. -/
def blockCodes (A : Arrays F) (b : ℕ) : IVec S1x512 32 :=
  keepArg (laneMin (tileAcc A 1 b)) (laneArg (tileAcc A 1 b)) (laneMin (tileAcc A 0 b)) (laneArg (tileAcc A 0 b))

/-- Block `b` of the output. -/
def outBlock (A : Arrays F) (b : ℕ) : Vec F S1x1x512 .i32 :=
  shapeCast S1x1x512 (blockCodes A b) shapeCasts_S1x512_S1x1x512

/-- The launch's output. -/
def codes (A : Arrays F) : Vec F S16x1x512 .i32 :=
  fun j => outBlock A (j 0).val (Idealize.ShloMosaic.ix3 0 (j 1) (j 2))

/-- What the scratch rows hold before point `t`: the first tile's minima and code numbers, in the lanes of each block
    that the first tile has visited and the second has not. -/
def Inv (A : Arrays F) (t : ℕ) (G : Vec F S1x8192 .f32) (J : Vec F S1x8192 .i32) : Prop :=
  ∀ b, b < 16 → b < t → t ≤ 16 + b → slot G b = laneMin (tileAcc A 0 b) ∧ slot J b = laneArg (tileAcc A 0 b)

theorem Inv.zero (A : Arrays F) (G : Vec F S1x8192 .f32) (J : Vec F S1x8192 .i32) : Inv A 0 G J :=
  fun _ _ h _ => absurd h (Nat.not_lt_zero _)

/-- A point carries the invariant on. -/
theorem Inv.next {A : Arrays F} {t : ℕ} {G : Vec F S1x8192 .f32} {J : Vec F S1x8192 .i32} (h : Inv A t G J)
    (i : grid1.Coords) (h0 : (i 0).val = t / 16) (h1 : (i 1).val = t % 16) :
    Inv A (t + 1) (nextMin i (tileE A.E (i 0).val) (blockR A.R (i 1).val) (tileN A.N (i 0).val) (slot A.D (i 1).val) G)
      (nextArg i (tileE A.E (i 0).val) (blockR A.R (i 1).val) (tileN A.N (i 0).val) (slot A.D (i 1).val) G J) := by
  intro b hb hbt htb
  unfold nextMin nextArg
  by_cases hb1 : b = (i 1).val
  · subst hb1
    rw [slot_setSlot _ _ hb, slot_setSlot _ _ hb]
    have h00 : (i 0).val = 0 := by omega
    rw [if_pos h00, if_pos h00]
    unfold tileAcc kbase
    rw [h00]
    exact ⟨rfl, rfl⟩
  · have hi : (i 1).val < 16 := (i 1).isLt
    rw [slot_setSlot_ne _ _ _ hi hb (by omega), slot_setSlot_ne _ _ _ hi hb (by omega)]
    exact h b hb (by omega) (by omega)

/-- A point of the second tile leaves its block of code numbers. -/
theorem Inv.out {A : Arrays F} {t : ℕ} {G : Vec F S1x8192 .f32} {J : Vec F S1x8192 .i32} (h : Inv A t G J)
    (i : grid1.Coords) (h0 : (i 0).val = t / 16) (h1 : (i 1).val = t % 16) (ht : (i 0).val ≠ 0) :
    outCodes i (tileE A.E (i 0).val) (blockR A.R (i 1).val) (tileN A.N (i 0).val) (slot A.D (i 1).val) G J
      = outBlock A (i 1).val := by
  have hk : (i 0).val < 2 := (i 0).isLt
  have hi : (i 1).val < 16 := (i 1).isLt
  obtain ⟨e1, e2⟩ := h (i 1).val hi (by omega) (by omega)
  have h01 : (i 0).val = 1 := by omega
  unfold outCodes outBlock blockCodes
  rw [e1, e2]
  unfold tileAcc kbase
  rw [h01]

end Cert.Proof
end
-- ==== Proof.Bodies.lean ====
/-
  The four launches' bodies are one program: the first, whose residual is not reshaped to its own shape, equals the second,
  and so do the third and the fourth.
-/
module

public import proofs.«01_k».proof.Proof.Body
public import Idealize.ShloMosaic.Lib.Pipeline.Value

@[expose] public section
noncomputable section
namespace Cert.Proof
open Cert.KernelIdeal Cert.KernelIdeal.Gen
open Idealize.ShloMosaic Idealize.ShloMosaic.ValueIdx
open Idealize.SL Idealize.SL.Sem
variable {F : FTy → Type} [FloatOps F] [Named F]
set_option maxHeartbeats 4000000
set_option maxRecDepth 65536

/-- The third launch's body is the second's. -/
theorem body2_eq : @cc2__argmin_body F _ _ = @cc1__argmin_body F _ _ := rfl
/-- The fourth launch's body is the second's. -/
theorem body3_eq : @cc3__argmin_body F _ _ = @cc1__argmin_body F _ _ := rfl

/-- The residual block as the second launch prepares it: the reshape to its own shape does nothing. -/
theorem pay37_eq (v : Vec F S512x256 .f32) : k1_pay37 v = truncf .bf16 v bitsLt_bf16_f32 := by
  unfold k1_pay37
  exact congrArg (fun x : FVec F S512x256 .f32 => truncf .bf16 x bitsLt_bf16_f32) (shapeCast_self v _)

/-- The first launch's body is the second's. -/
theorem body0_eq : @cc0__argmin_body F _ _ = @cc1__argmin_body F _ _ := by
  funext _ i arg2 harg2 arg3 harg3 arg4 harg4 arg5 harg5 arg6 harg6 arg7 harg7 arg8 harg8
  simp only [cc1__argmin_body_eq_skeleton, cc0__argmin_body_eq_skeleton]; unfold cc1__argmin_body_skel cc0__argmin_body_skel
  simp only [k1_part4_eq_skeleton, k1_part5_eq_skeleton, k1_part6_eq_skeleton, k1_part7_eq_skeleton,
    k0_part4_eq_skeleton, k0_part5_eq_skeleton, k0_part6_eq_skeleton, k0_part7_eq_skeleton]
  unfold k1_part4_skel k1_part5_skel k1_part6_skel k1_part7_skel k0_part4_skel k0_part5_skel k0_part6_skel k0_part7_skel
  simp only [Prog.lift, Prog.bind_op, Prog.bind_ret, Prog.bind_assoc, Prog.pure_eq_ret]
  simp only [k1_pay45, k1_pay44, k1_pay42, k1_pay41, k1_pay43, k1_pay46, k1_pay40, k0_pay45, k0_pay44, k0_pay42, k0_pay41, k0_pay43, k0_pay46, k0_pay40, pay37_eq]
  refine congrArg (Prog.op _) (funext fun x1 => ?_)
  refine congrArg (Prog.op _) (funext fun x2 => ?_)
  refine congrArg (Prog.op _) (funext fun x3 => ?_)
  refine congrArg (Prog.op _) (funext fun x4 => ?_)
  refine congrArg (Prog.op _) (funext fun x5 => ?_)
  refine congrArg₂ Bind.bind ?_ (funext fun a => ?_)
  · congr 1
  refine congrArg (Prog.op _) (funext fun x6 => ?_)
  have hc : k1_cond1 i = k0_cond1 i := rfl
  by_cases h : k0_cond1 i = 1#1
  · simp only [dif_pos h, dif_pos (hc.trans h), Prog.bind_op, Prog.bind_ret]
    rfl
  · simp only [dif_neg h, dif_neg (fun e => h (hc.symm.trans e)), Prog.bind_op, Prog.bind_ret]
    rfl
end Cert.Proof
end
-- ==== Proof.Windows.lean ====
/-
  Facts about a launch's windows that hold of every launch: what an input window's buffer holds when the body runs, what
  the output array holds after the last write-back, and the record of one launch.
-/
module

public import proofs.«01_k».proof.Proof.Gen.KernelIdeal.Regions
public import Idealize.ShloMosaic.Lib.Pipeline.FrameBody
public import Idealize.ShloMosaic.Lib.Pipeline.Kit

@[expose] public section
noncomputable section
namespace Cert.Proof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
local notation "𝕄" => MT nD τ sig Unit (Elt F) ℕ (UR sig nD τ) ℕ

section Any
variable {cfg : Cfg sig Λ₀} {c : Dev nD} (rd : RDat τ (Elt F) Unit ℕ (UR sig nD τ) ℕ cfg c)

/-- An input window that the body leaves as found holds the array's block at the point. -/
theorem found (w : Fin cfg.W) (hw : (cfg.win w).isOut = false) (hclip : ∀ i a, (cfg.win w).clip i a = none)
    (hkeep : ∀ t Y X, rd.after w t Y X → X = Y) (t : Fin cfg.N) (Y : (cfg.win w).block.Idx → Elt F (cfg.win w).elt)
    (h : rd.Finds w t Y) (j : (cfg.win w).block.Idx) (hj : ∀ a, (j a).val < (cfg.win w).xsize (cfg.grid.coords t) a) :
    Y j = rd.blockOf w t fun a => ⟨(j a).val, hj a⟩ := by
  obtain ⟨d, rfl⟩ := rd.finds_in_eq_fetched w hw (fun t t' _ => by funext a; rw [hclip, hclip]) hkeep t Y h
  have hm : (cfg.win w).moved (cfg.grid.coords t) j = true := ((cfg.win w).moved_iff _ j).mpr hj
  unfold RDat.fetched Window.fill
  rw [dif_pos hm]

/-- The element a block's last write-back leaves: for a window written back at every point, an element of the block at
    point `t` that no later point's block covers holds at the end what the body left there at `t`. -/
theorem written (w : Fin cfg.W) (hf : ∀ t, (cfg.win w).flush t = true) (t : Fin cfg.N)
    (y : ((cfg.win w).xblock (cfg.grid.coords t)).Idx)
    (hlater : ∀ u : Fin cfg.N, t.val < u.val → ((cfg.win w).blk t).view.emb y ∉ ((cfg.win w).blk u).view.set) :
    ∀ (n : ℕ) (G : Buf (Elt F) ((cfg.win w).arr.view.loc (c.tc : Thread nD τ))), t.val < n → rd.ArrAt w n G →
      ∃ X, rd.Leaves w t X ∧ G (((cfg.win w).blk t).view.emb y)
        = _root_.cast (congrArg (Elt F) ((cfg.win w).blk t).view.elt_eq.symm) (X ((cfg.win w).xinj (cfg.grid.coords t) y))
  | 0, _, h, _ => absurd h (Nat.not_lt_zero _)
  | n + 1, G, h, hG => by
    by_cases hn : n < cfg.N
    · have hs : rd.ArrAt w (n + 1) = _ := rd.ArrAt_succ w ⟨n, hn⟩
      rw [hs, if_pos (hf _)] at hG
      obtain ⟨G₀, X, hG₀, hX, rfl⟩ := hG
      by_cases htn : t.val = n
      · obtain rfl : t = ⟨n, hn⟩ := Fin.ext htn
        exact ⟨X, hX, View.write_emb_of_mem _ _ (Finset.mem_univ y)⟩
      · rw [View.write_of_not_mem _ _ _ (by rw [View.setOn_univ]; exact hlater ⟨n, hn⟩ (by show t.val < n; omega))]
        exact written w hf t y hlater n G₀ (by omega) hG₀
    · have hs : rd.ArrAt w (n + 1) = rd.ArrAt w n := by
        rw [rd.ArrAt_stable w (n + 1) (by omega), rd.ArrAt_stable w n (by omega)]
      rw [hs] at hG
      exact written w hf t y hlater n G (by have := t.isLt; omega) hG

end Any

/-- No core owes another anything: no level is assigned. -/
abbrev noL : GSem nD τ sig → Finset Unit := fun _ => ∅
abbrev noLv : GSem nD τ sig → Unit → ℕ := fun _ _ => 0

/-- The thread state between two parts of the program: every unscoped buffer at a valuation, and nothing owed. -/
abbrev stateAt (V : (c : Dev nD) → Valuation τ sig (Elt F)) (c : Dev nD) : sProp 𝕄 :=
  iprop(StableHlo.held (c : Thread nD τ) (Pipeline.ucRefs τ sig) (V c) ∗ ∃ W, owes (c : Thread nD τ) (0 : CellTallies nD τ sig Unit) W)

set_option backward.isDefEq.respectTransparency.types false in
/-- The record of a launch whose arrays are read off the valuation `V` before it and end as the valuation `V'` after it
    says, the two agreeing off the arrays. -/
def launchRecord (p : Fin 4) (rdats : (p : Fin 4) → (c : Dev nD) → RDat τ (Elt F) Unit ℕ (UR sig nD τ) ℕ (cfgs p) c)
    (kit : Pipeline.LaunchFacts (nD := nD) (τ := τ) cfgs p) (V V' : (c : Dev nD) → Valuation τ sig (Elt F))
    (hA : ∀ c w, (rdats p c).A w = V c (Pipeline.arrRef (cfgs p).spec w))
    (hq : ∀ c w, (rdats p c).q w = fullShare) (howed : ∀ c t, (rdats p c).owed t = 0) (hrec : ∀ c t, (rdats p c).recorded t = Set.univ)
    (hbody : ∀ c, (rdats p c).BodyObligation (defs₀ (F := F)) Variants.none () Set.univ)
    (hin : ∀ c, (Pipeline.scopedRest (Ix := Unit) (Name := ℕ) (U := UR sig nD τ) (Lvl := ℕ) (Val := Elt F) (cfgs p).spec c : sProp 𝕄) ⊢ (rdats p c).Φ 0)
    (hout : ∀ c, (rdats p c).Φ (Fin.last _) ⊢ (Pipeline.scopedRest (Ix := Unit) (Name := ℕ) (U := UR sig nD τ) (Lvl := ℕ) (Val := Elt F) (cfgs p).spec c : sProp 𝕄))
    (hend : ∀ c w G, (rdats p c).ArrAt w (cfgs p).N G → G = V' c (Pipeline.arrRef (cfgs p).spec w))
    (hrest : ∀ c (b : Ref sig .tc), b ∉ Finset.univ.image (Pipeline.arrRef (cfgs p).spec) → V' c b = V c b) :
    RDat.RegionSeg (pcfgs (F := F)) adm rdats () defs₀ Variants.none noL noLv p where
  win := kit.win.to₀
  block_pos := kit.block_pos
  stage_whole := kit.stage_whole
  K := PEmpty
  osem k := k.elim
  ho := Pipeline.OwnSemFacts.none _
  hbody := hbody
  hwaits := RDat.hwaits_of_owed_zero _ _ _ _ noL noLv p howed
  pre := stateAt V
  post := stateAt V'
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none]
    have hsplit := RDat.arrays_of_unscopedBufs (p := p) (pcfgs (F := F)) adm rdats kit.win kit.arr_whole c
      ((rdats p c).share_full (hq c)) (fun b => V c b) (hA c)
    unfold stateAt
    rw [← Pipeline.unscopedBufs_held (Ix := Unit) (Name := ℕ) (U := UR sig nD τ) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      rw [howed]
      icases HO with ⟨%W, HO⟩; iexists W; isplitr; · ipureintro; unfold RDat.bound; rw [hrec]; exact fun _ _ => Or.inl trivial
      iexact HO
    isplitr; · iempintro
    iexact Hrest
  hin c := by
    iintro ⟨-, -, Hr⟩; iapply hin c; iexact Hr
  hout c := by
    rw [Pipeline.ownSems0_none]
    iintro Hr
    isplitr; · iempintro
    isplitr; · iempintro
    iapply hout c; iexact Hr
  hexit c := by
    have hjoin : iprop((rdats p c).arraysAt (cfgs p).N
        ∗ Pipeline.unscopedRest (Ix := Unit) (Name := ℕ) (U := UR sig nD τ) (Lvl := ℕ) (cfgs p).spec c (fun b => V c b))
        ⊢ (unscopedBufs c (fun b => V' c b) : sProp 𝕄) := by
      rw [Pipeline.unscopedBufs_split cfgs p kit.win.arr_unscoped kit.win.arr_inj c (fun b => V' c b)]
      refine sep_mono ?_ (Entails.of_eq ?_)
      · unfold RDat.arraysAt
        refine bigSep_mono fun w _ => ?_
        rw [(rdats p c).share_full (hq c) w, (kit.arr_whole w).set_eq_univ]
        have hG : (iprop(∃ G, ⌜(rdats p c).ArrAt w (cfgs p).N G⌝ ∗ View.loc (c : Thread nD τ) ((cfgs p).win w).arr.view ↦{fullShare} G) : sProp 𝕄)
            ⊢ View.loc (c : Thread nD τ) ((cfgs p).win w).arr.view ↦{fullShare} V' c (Pipeline.arrRef (cfgs p).spec w) := by
          iintro ⟨%G, %hG, H⟩
          rw [hend c w G hG]
          iexact H
        exact hG
      · unfold Pipeline.unscopedRest
        exact bigSep_congr fun b hb => congrArg (fun x => ((c : Thread nD τ).loc b) ↦{fullShare} x) (hrest c b (Finset.mem_sdiff.mp hb).2).symm
    unfold stateAt
    rw [← Pipeline.unscopedBufs_held (Ix := Unit) (Name := ℕ) (U := UR sig nD τ) (Lvl := ℕ) c (V' c)]
    iintro ⟨Ha, HO, -, Hrest⟩
    imodintro
    isplitl [Ha Hrest]
    · iapply hjoin; isplitl [Ha] <;> iassumption
    unfold RDat.owesAt Pipeline.owesWithin
    rw [howed]
    icases HO with ⟨%W, -, HO⟩; iexists W; iexact HO

end Cert.Proof
end
-- ==== Proof.Region0.lean ====
/-
  The first launch: its windows' blocks, its body at every point, and its output array.
-/
module

public import proofs.«01_k».proof.Proof.Level
public import proofs.«01_k».proof.Proof.Bodies
public import proofs.«01_k».proof.Proof.Windows
public import proofs.«01_k».proof.Proof.Gen.KernelIdeal.Points
public import Idealize.ShloMosaic.Lib.Pipeline.ValueKit.Geometry

@[expose] public section
noncomputable section
namespace Cert.Proof.Region0
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
local notation "𝕄" => MT nD τ sig Unit (Elt F) ℕ (UR sig nD τ) ℕ

/-- The arrays the launch reads, at a valuation. -/
def arrays (V : Valuation τ sig (Elt F)) : Arrays F := ⟨V main_v1, V main_arg0, V main_v4, V main_v7⟩

/-- The invariant: the scratch rows as `Inv` says, and the scoped buffers the launch does not use. -/
def inv (A : Arrays F) (c : Dev nD) (t : ℕ) : sProp 𝕄 :=
  iprop(∃ G J, ⌜Inv A t G J⌝ ∗ owns (c : Thread nD τ) (Memref.whole cc0_scratch0) fullShare G
    ∗ owns (c : Thread nD τ) (Memref.whole cc0_scratch1) fullShare J
    ∗ Pipeline.scopedRestBut (Ix := Unit) (Name := ℕ) (U := UR sig nD τ) (Lvl := ℕ) (Val := Elt F) spec0 c [cc0_scratch0, cc0_scratch1])

/-- The launch's data: the inputs stay as found; at a point of the second tile the output buffer is left at the block's
    code numbers. -/
def data (V : Valuation τ sig (Elt F)) (c : Dev nD) : RDat τ (Elt F) Unit ℕ (UR sig nD τ) ℕ cfg0 c where
  A w := V (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => 16 ≤ t.val → X = outBlock (arrays V) (t.val % 16)
  Φ t := inv (arrays V) c t.val
  q _ := fullShare
  owed _ := 0

theorem coords_val : ∀ t : Fin grid0.N, (grid0.coords t 0).val = t.val / 16 ∧ (grid0.coords t 1).val = t.val % 16 := by
  decide +kernel

variable (V : Valuation τ sig (Elt F)) (c : Dev nD)

theorem index_val : ∀ t : Fin grid0.N, (win0_0.index t 0 = t.val / 16 ∧ win0_0.index t 1 = 0)
    ∧ (win0_1.index t 0 = t.val % 16 ∧ win0_1.index t 1 = 0) ∧ (win0_2.index t 0 = t.val / 16 ∧ win0_2.index t 1 = 0)
    ∧ (win0_3.index t 0 = 0 ∧ win0_3.index t 1 = t.val % 16)
    ∧ (win0_4.index t 0 = t.val % 16 ∧ win0_4.index t 1 = 0 ∧ win0_4.index t 2 = 0) := by
  decide +kernel

theorem found0 (t : Fin cfg0.N) (Y : (cfg0.win 0).block.Idx → Elt F (cfg0.win 0).elt) (h : (data V c).Finds 0 t Y) :
    Y = tileE (arrays V).E (grid0.coords t 0).val := by
  funext j
  refine (found (data V c) 0 rfl (fun _ _ => rfl) (fun _ _ _ h => h) t Y h j (fun a => (j a).isLt)).trans ?_
  obtain ⟨h0, h1⟩ := coords_val t
  obtain ⟨e0, e1⟩ := (index_val t).1
  have hj : (j 0).val < 4096 := (j 0).isLt
  have ht : t.val < 32 := t.isLt
  refine congrArg (V main_v1) (funext fun a => Fin.ext ?_)
  refine (Window.rect_emb_val win0_0 t _ a).trans ?_
  match a with
  | 0 =>
    show win0_0.index t 0 * 4096 + (j 0).val = (4096 * (grid0.coords t 0).val + (j 0).val) % 8192
    omega
  | 1 =>
    show win0_0.index t 1 * 256 + (j 1).val = (j 1).val
    omega

theorem found1 (t : Fin cfg0.N) (Y : (cfg0.win 1).block.Idx → Elt F (cfg0.win 1).elt) (h : (data V c).Finds 1 t Y) :
    Y = blockR (arrays V).R (grid0.coords t 1).val := by
  funext j
  refine (found (data V c) 1 rfl (fun _ _ => rfl) (fun _ _ _ h => h) t Y h j (fun a => (j a).isLt)).trans ?_
  obtain ⟨h0, h1⟩ := coords_val t
  obtain ⟨e0, e1⟩ := (index_val t).2.1
  have hj : (j 0).val < 512 := (j 0).isLt
  have ht : t.val < 32 := t.isLt
  refine congrArg (V main_arg0) (funext fun a => Fin.ext ?_)
  refine (Window.rect_emb_val win0_1 t _ a).trans ?_
  match a with
  | 0 =>
    show win0_1.index t 0 * 512 + (j 0).val = (512 * (grid0.coords t 1).val + (j 0).val) % 8192
    omega
  | 1 =>
    show win0_1.index t 1 * 256 + (j 1).val = (j 1).val
    omega

theorem found2 (t : Fin cfg0.N) (Y : (cfg0.win 2).block.Idx → Elt F (cfg0.win 2).elt) (h : (data V c).Finds 2 t Y) :
    Y = tileN (arrays V).N (grid0.coords t 0).val := by
  funext j
  refine (found (data V c) 2 rfl (fun _ _ => rfl) (fun _ _ _ h => h) t Y h j (fun a => (j a).isLt)).trans ?_
  obtain ⟨h0, h1⟩ := coords_val t
  obtain ⟨e0, e1⟩ := (index_val t).2.2.1
  have hj : (j 0).val < 4096 := (j 0).isLt
  have ht : t.val < 32 := t.isLt
  refine congrArg (V main_v4) (funext fun a => Fin.ext ?_)
  refine (Window.rect_emb_val win0_2 t _ a).trans ?_
  match a with
  | 0 =>
    show win0_2.index t 0 * 4096 + (j 0).val = (4096 * (grid0.coords t 0).val + (j 0).val) % 8192
    omega
  | 1 =>
    show win0_2.index t 1 * 1 + (j 1).val = (j 1).val
    omega

theorem found3 (t : Fin cfg0.N) (Y : (cfg0.win 3).block.Idx → Elt F (cfg0.win 3).elt) (h : (data V c).Finds 3 t Y) :
    Y = slot (arrays V).D (grid0.coords t 1).val := by
  funext j
  refine (found (data V c) 3 rfl (fun _ _ => rfl) (fun _ _ _ h => h) t Y h j (fun a => (j a).isLt)).trans ?_
  obtain ⟨h0, h1⟩ := coords_val t
  obtain ⟨e0, e1⟩ := (index_val t).2.2.2.1
  have hj : (j 1).val < 512 := (j 1).isLt
  have ht : t.val < 32 := t.isLt
  refine congrArg (V main_v7) (funext fun a => Fin.ext ?_)
  refine (Window.rect_emb_val win0_3 t _ a).trans ?_
  match a with
  | 0 =>
    show win0_3.index t 0 * 1 + (j 0).val = (j 0).val
    omega
  | 1 =>
    show win0_3.index t 1 * 512 + (j 1).val = (512 * (grid0.coords t 1).val + (j 1).val) % 8192
    omega

set_option maxHeartbeats 1000000 in
theorem body_obligation : (data V c).BodyObligation (defs₀ (F := F)) Variants.none () Set.univ := fun t Y hY => by
  rw [bigSep_W0, bigSep_W0]
  rw [show defs₀ (F := F) .tc cfg0.body (cfg0.bodyArgs t (cfg0.slots t)) = bodyAt0 t from by unfold defs₀; rw [Defs.onTc_tc]]
  rw [show (data V c).Φ t.castSucc = inv (arrays V) c t.val from rfl, show (data V c).Φ t.succ = inv (arrays V) c (t.val + 1) from rfl,
    show (data V c).owesAt () t.succ = (data V c).owesAt () t.castSucc from rfl]
  have e0 := found0 V c t (Y 0) (hY 0)
  have e1 := found1 V c t (Y 1) (hY 1)
  have e2 := found2 V c t (Y 2) (hY 2)
  have e3 := found3 V c t (Y 3) (hY 3)
  rw [e0, e1, e2, e3]
  obtain ⟨h0, h1⟩ := coords_val t
  unfold inv
  iintro ⟨⟨%G, %J, %hI, HG, HJ, Hr⟩, Howes, H0, H1, H2, H3, H4⟩
  unfold bodyAt0
  rw [body0_eq]
  iapply (body_run c (grid0.coords t) _ _ _ _ _ _ _ _ _ _ _ _ _ _ _ _ _ _ (Y 4) G J)
  isplitl [H0]; · iexact H0
  isplitl [H1]; · iexact H1
  isplitl [H2]; · iexact H2
  isplitl [H3]; · iexact H3
  isplitl [H4]; · iexact H4
  isplitl [HG]; · iexact HG
  isplitl [HJ]; · iexact HJ
  iintro ⟨H0, H1, H2, H3, H4, HG, HJ⟩
  isplitl [HG HJ Hr]
  · iexists _; iexists _
    isplitr; · ipureintro; exact hI.next (grid0.coords t) h0 h1
    isplitl [HG]; · iexact HG
    isplitl [HJ]; · iexact HJ
    iexact Hr
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  iexists _; isplitr; swap; (· iexact H4)
  ipureintro
  intro ht
  have hne : (grid0.coords t 0).val ≠ 0 := by omega
  rw [if_neg hne, hI.out (grid0.coords t) h0 h1 hne, h1]

/-- Element `y` of block `b` of the output sits at `(b, y 1, y 2)`. -/
theorem emb4 (t : Fin cfg0.N) (y : S1x1x512.Idx) :
    (win0_4.blk t).view.emb y = (Idealize.ShloMosaic.ix3 ⟨t.val % 16, Nat.mod_lt _ (by decide)⟩ (y 1) (y 2) : S16x1x512.Idx) := by
  obtain ⟨e0, e1, e2⟩ := (index_val t).2.2.2.2
  funext a
  refine Fin.ext ((Window.rect_emb_val win0_4 t _ a).trans ?_)
  have hy : (y 0).val < 1 := (y 0).isLt
  match a with
  | 0 =>
    show win0_4.index t 0 * 1 + (y 0).val = t.val % 16
    omega
  | 1 =>
    show win0_4.index t 1 * 1 + (y 1).val = (y 1).val
    omega
  | 2 =>
    show win0_4.index t 2 * 512 + (y 2).val = (y 2).val
    omega

/-- The output array after the launch. -/
theorem out_eq (G : Vec F S16x1x512 .i32) (h : (data V c).ArrAt 4 cfg0.N G) : G = codes (arrays V) := by
  funext j
  have hj : (j 0).val < 16 := (j 0).isLt
  let t : Fin cfg0.N := ⟨16 + (j 0).val, by show _ < 32; omega⟩
  let y : S1x1x512.Idx := Idealize.ShloMosaic.ix3 0 (j 1) (j 2)
  have ht : t.val % 16 = (j 0).val := by show (16 + (j 0).val) % 16 = _; omega
  have hy : (win0_4.blk t).view.emb y = j := by
    rw [emb4]
    funext a
    match a with
    | 0 => exact Fin.ext ht
    | 1 => rfl
    | 2 => rfl
  obtain ⟨X, ⟨Z, -, hX⟩, e⟩ := written (data V c) 4 flush0_4 t y (fun u hu hm => by
    obtain ⟨z, -, hz⟩ := Finset.mem_map.mp hm
    have hz' : (win0_4.blk u).view.emb z = (win0_4.blk t).view.emb y := hz
    rw [emb4, emb4] at hz'
    have h0 : u.val % 16 = t.val % 16 := congrArg (fun f : S16x1x512.Idx => (f 0).val) hz'
    have hu32 : u.val < 32 := u.isLt
    have ht' : t.val = 16 + (j 0).val := rfl
    omega) cfg0.N G t.isLt h
  have hX' : X = outBlock (arrays V) (t.val % 16) := hX (by show 16 ≤ 16 + (j 0).val; omega)
  have e' : G ((win0_4.blk t).view.emb y) = X y := e
  rw [hy] at e'
  rw [e', hX', ht]
  rfl

theorem enter : (Pipeline.scopedRest (Ix := Unit) (Name := ℕ) (U := UR sig nD τ) (Lvl := ℕ) (Val := Elt F) spec0 c : sProp 𝕄)
    ⊢ (data V c).Φ 0 := by
  rw [scopedRest0_split]
  show _ ⊢ inv (arrays V) c 0
  unfold inv
  simp only [owns_whole_eq]
  iintro ⟨⟨⟨%f, Hf⟩, %g, Hg⟩, Hr⟩
  iexists f; iexists g
  isplitr; · ipureintro; exact Inv.zero _ _ _
  isplitl [Hf]; · iexists f; isplitr; (· ipureintro; rfl); iexact Hf
  isplitl [Hg]; · iexists g; isplitr; (· ipureintro; rfl); iexact Hg
  iexact Hr

theorem leave : (data V c).Φ (Fin.last _)
    ⊢ (Pipeline.scopedRest (Ix := Unit) (Name := ℕ) (U := UR sig nD τ) (Lvl := ℕ) (Val := Elt F) spec0 c : sProp 𝕄) := by
  rw [scopedRest0_split]
  show inv (arrays V) c 32 ⊢ _
  unfold inv
  simp only [owns_whole_eq]
  iintro ⟨%G, %J, -, ⟨%f, -, Hf⟩, ⟨%g, -, Hg⟩, Hr⟩
  isplitl [Hf Hg]
  · isplitl [Hf]
    · iexists f; iexact Hf
    · iexists g; iexact Hg
  iexact Hr

/-- The valuation after the launch: the output array holds the code numbers. -/
def after (V : Valuation τ sig (Elt F)) : Valuation τ sig (Elt F) := Function.update V main_v8 (codes (arrays V))

theorem after_out : after V main_v8 = codes (arrays V) := Function.update_self (f := V) _ _

theorem after_ne (b : Ref sig .tc) (h : b ≠ main_v8) : after V b = V b :=
  Function.update_of_ne (f := V) (StableHlo.devRef_ne_of_ne h) _

/-- What an input array may hold after the launch. -/
theorem input_end (w : Fin cfg0.W) (hw : (cfg0.win w).isOut = false) (hne : Pipeline.arrRef spec0 w ≠ main_v8)
    (G : Buf (Elt F) ((cfg0.win w).arr.view.loc (c : Thread nD τ))) (h : (data V c).ArrAt w cfg0.N G) :
    G = after V (Pipeline.arrRef spec0 w) := by
  rw [(data V c).ArrAt_in w hw] at h
  exact h.trans (after_ne V _ hne).symm

set_option maxHeartbeats 2000000 in
/-- What each array may hold after the launch. -/
theorem arrays_end (w : Fin cfg0.W) (G : Buf (Elt F) ((cfg0.win w).arr.view.loc (c : Thread nD τ))) (h : (data V c).ArrAt w cfg0.N G) :
    G = after V (Pipeline.arrRef spec0 w) := by
  match w with
  | 0 => exact input_end V c 0 rfl (by decide) G h
  | 1 => exact input_end V c 1 rfl (by decide) G h
  | 2 => exact input_end V c 2 rfl (by decide) G h
  | 3 => exact input_end V c 3 rfl (by decide) G h
  | 4 => exact (out_eq V c G h).trans (after_out V).symm

theorem others_end (b : Ref sig .tc) (h : b ∉ Finset.univ.image (Pipeline.arrRef spec0)) : after V b = V b :=
  after_ne V b fun e => h (Finset.mem_image.mpr ⟨4, Finset.mem_univ _, e.symm⟩)

end Cert.Proof.Region0
end
-- ==== Proof.Region1.lean ====
/-
  The second launch: its windows' blocks, its body at every point, and its output array.
-/
module

public import proofs.«01_k».proof.Proof.Level
public import proofs.«01_k».proof.Proof.Windows
public import proofs.«01_k».proof.Proof.Gen.KernelIdeal.Points
public import Idealize.ShloMosaic.Lib.Pipeline.ValueKit.Geometry

@[expose] public section
noncomputable section
namespace Cert.Proof.Region1
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
local notation "𝕄" => MT nD τ sig Unit (Elt F) ℕ (UR sig nD τ) ℕ

/-- The arrays the launch reads, at a valuation. -/
def arrays (V : Valuation τ sig (Elt F)) : Arrays F := ⟨V main_v13, V main_v11, V main_v16, V main_v19⟩

/-- The invariant: the scratch rows as `Inv` says, and the scoped buffers the launch does not use. -/
def inv (A : Arrays F) (c : Dev nD) (t : ℕ) : sProp 𝕄 :=
  iprop(∃ G J, ⌜Inv A t G J⌝ ∗ owns (c : Thread nD τ) (Memref.whole cc1_scratch0) fullShare G
    ∗ owns (c : Thread nD τ) (Memref.whole cc1_scratch1) fullShare J
    ∗ Pipeline.scopedRestBut (Ix := Unit) (Name := ℕ) (U := UR sig nD τ) (Lvl := ℕ) (Val := Elt F) spec1 c [cc1_scratch0, cc1_scratch1])

/-- The launch's data: the inputs stay as found; at a point of the second tile the output buffer is left at the block's
    code numbers. -/
def data (V : Valuation τ sig (Elt F)) (c : Dev nD) : RDat τ (Elt F) Unit ℕ (UR sig nD τ) ℕ cfg1 c where
  A w := V (Pipeline.arrRef spec1 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => 16 ≤ t.val → X = outBlock (arrays V) (t.val % 16)
  Φ t := inv (arrays V) c t.val
  q _ := fullShare
  owed _ := 0

theorem coords_val : ∀ t : Fin grid1.N, (grid1.coords t 0).val = t.val / 16 ∧ (grid1.coords t 1).val = t.val % 16 := by
  decide +kernel

variable (V : Valuation τ sig (Elt F)) (c : Dev nD)

theorem index_val : ∀ t : Fin grid1.N, (win1_0.index t 0 = t.val / 16 ∧ win1_0.index t 1 = 0)
    ∧ (win1_1.index t 0 = t.val % 16 ∧ win1_1.index t 1 = 0) ∧ (win1_2.index t 0 = t.val / 16 ∧ win1_2.index t 1 = 0)
    ∧ (win1_3.index t 0 = 0 ∧ win1_3.index t 1 = t.val % 16)
    ∧ (win1_4.index t 0 = t.val % 16 ∧ win1_4.index t 1 = 0 ∧ win1_4.index t 2 = 0) := by
  decide +kernel

theorem found0 (t : Fin cfg1.N) (Y : (cfg1.win 0).block.Idx → Elt F (cfg1.win 0).elt) (h : (data V c).Finds 0 t Y) :
    Y = tileE (arrays V).E (grid1.coords t 0).val := by
  funext j
  refine (found (data V c) 0 rfl (fun _ _ => rfl) (fun _ _ _ h => h) t Y h j (fun a => (j a).isLt)).trans ?_
  obtain ⟨h0, h1⟩ := coords_val t
  obtain ⟨e0, e1⟩ := (index_val t).1
  have hj : (j 0).val < 4096 := (j 0).isLt
  have ht : t.val < 32 := t.isLt
  refine congrArg (V main_v13) (funext fun a => Fin.ext ?_)
  refine (Window.rect_emb_val win1_0 t _ a).trans ?_
  match a with
  | 0 =>
    show win1_0.index t 0 * 4096 + (j 0).val = (4096 * (grid1.coords t 0).val + (j 0).val) % 8192
    omega
  | 1 =>
    show win1_0.index t 1 * 256 + (j 1).val = (j 1).val
    omega

theorem found1 (t : Fin cfg1.N) (Y : (cfg1.win 1).block.Idx → Elt F (cfg1.win 1).elt) (h : (data V c).Finds 1 t Y) :
    Y = blockR (arrays V).R (grid1.coords t 1).val := by
  funext j
  refine (found (data V c) 1 rfl (fun _ _ => rfl) (fun _ _ _ h => h) t Y h j (fun a => (j a).isLt)).trans ?_
  obtain ⟨h0, h1⟩ := coords_val t
  obtain ⟨e0, e1⟩ := (index_val t).2.1
  have hj : (j 0).val < 512 := (j 0).isLt
  have ht : t.val < 32 := t.isLt
  refine congrArg (V main_v11) (funext fun a => Fin.ext ?_)
  refine (Window.rect_emb_val win1_1 t _ a).trans ?_
  match a with
  | 0 =>
    show win1_1.index t 0 * 512 + (j 0).val = (512 * (grid1.coords t 1).val + (j 0).val) % 8192
    omega
  | 1 =>
    show win1_1.index t 1 * 256 + (j 1).val = (j 1).val
    omega

theorem found2 (t : Fin cfg1.N) (Y : (cfg1.win 2).block.Idx → Elt F (cfg1.win 2).elt) (h : (data V c).Finds 2 t Y) :
    Y = tileN (arrays V).N (grid1.coords t 0).val := by
  funext j
  refine (found (data V c) 2 rfl (fun _ _ => rfl) (fun _ _ _ h => h) t Y h j (fun a => (j a).isLt)).trans ?_
  obtain ⟨h0, h1⟩ := coords_val t
  obtain ⟨e0, e1⟩ := (index_val t).2.2.1
  have hj : (j 0).val < 4096 := (j 0).isLt
  have ht : t.val < 32 := t.isLt
  refine congrArg (V main_v16) (funext fun a => Fin.ext ?_)
  refine (Window.rect_emb_val win1_2 t _ a).trans ?_
  match a with
  | 0 =>
    show win1_2.index t 0 * 4096 + (j 0).val = (4096 * (grid1.coords t 0).val + (j 0).val) % 8192
    omega
  | 1 =>
    show win1_2.index t 1 * 1 + (j 1).val = (j 1).val
    omega

theorem found3 (t : Fin cfg1.N) (Y : (cfg1.win 3).block.Idx → Elt F (cfg1.win 3).elt) (h : (data V c).Finds 3 t Y) :
    Y = slot (arrays V).D (grid1.coords t 1).val := by
  funext j
  refine (found (data V c) 3 rfl (fun _ _ => rfl) (fun _ _ _ h => h) t Y h j (fun a => (j a).isLt)).trans ?_
  obtain ⟨h0, h1⟩ := coords_val t
  obtain ⟨e0, e1⟩ := (index_val t).2.2.2.1
  have hj : (j 1).val < 512 := (j 1).isLt
  have ht : t.val < 32 := t.isLt
  refine congrArg (V main_v19) (funext fun a => Fin.ext ?_)
  refine (Window.rect_emb_val win1_3 t _ a).trans ?_
  match a with
  | 0 =>
    show win1_3.index t 0 * 1 + (j 0).val = (j 0).val
    omega
  | 1 =>
    show win1_3.index t 1 * 512 + (j 1).val = (512 * (grid1.coords t 1).val + (j 1).val) % 8192
    omega

set_option maxHeartbeats 1000000 in
theorem body_obligation : (data V c).BodyObligation (defs₀ (F := F)) Variants.none () Set.univ := fun t Y hY => by
  rw [bigSep_W1, bigSep_W1]
  rw [show defs₀ (F := F) .tc cfg1.body (cfg1.bodyArgs t (cfg1.slots t)) = bodyAt1 t from by unfold defs₀; rw [Defs.onTc_tc]]
  rw [show (data V c).Φ t.castSucc = inv (arrays V) c t.val from rfl, show (data V c).Φ t.succ = inv (arrays V) c (t.val + 1) from rfl,
    show (data V c).owesAt () t.succ = (data V c).owesAt () t.castSucc from rfl]
  have e0 := found0 V c t (Y 0) (hY 0)
  have e1 := found1 V c t (Y 1) (hY 1)
  have e2 := found2 V c t (Y 2) (hY 2)
  have e3 := found3 V c t (Y 3) (hY 3)
  rw [e0, e1, e2, e3]
  obtain ⟨h0, h1⟩ := coords_val t
  unfold inv
  iintro ⟨⟨%G, %J, %hI, HG, HJ, Hr⟩, Howes, H0, H1, H2, H3, H4⟩
  iapply (body_run c (grid1.coords t) _ _ _ _ _ _ _ _ _ _ _ _ _ _ _ _ _ _ (Y 4) G J)
  isplitl [H0]; · iexact H0
  isplitl [H1]; · iexact H1
  isplitl [H2]; · iexact H2
  isplitl [H3]; · iexact H3
  isplitl [H4]; · iexact H4
  isplitl [HG]; · iexact HG
  isplitl [HJ]; · iexact HJ
  iintro ⟨H0, H1, H2, H3, H4, HG, HJ⟩
  isplitl [HG HJ Hr]
  · iexists _; iexists _
    isplitr; · ipureintro; exact hI.next (grid1.coords t) h0 h1
    isplitl [HG]; · iexact HG
    isplitl [HJ]; · iexact HJ
    iexact Hr
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  iexists _; isplitr; swap; (· iexact H4)
  ipureintro
  intro ht
  have hne : (grid1.coords t 0).val ≠ 0 := by omega
  rw [if_neg hne, hI.out (grid1.coords t) h0 h1 hne, h1]

/-- Element `y` of block `b` of the output sits at `(b, y 1, y 2)`. -/
theorem emb4 (t : Fin cfg1.N) (y : S1x1x512.Idx) :
    (win1_4.blk t).view.emb y = (Idealize.ShloMosaic.ix3 ⟨t.val % 16, Nat.mod_lt _ (by decide)⟩ (y 1) (y 2) : S16x1x512.Idx) := by
  obtain ⟨e0, e1, e2⟩ := (index_val t).2.2.2.2
  funext a
  refine Fin.ext ((Window.rect_emb_val win1_4 t _ a).trans ?_)
  have hy : (y 0).val < 1 := (y 0).isLt
  match a with
  | 0 =>
    show win1_4.index t 0 * 1 + (y 0).val = t.val % 16
    omega
  | 1 =>
    show win1_4.index t 1 * 1 + (y 1).val = (y 1).val
    omega
  | 2 =>
    show win1_4.index t 2 * 512 + (y 2).val = (y 2).val
    omega

/-- The output array after the launch. -/
theorem out_eq (G : Vec F S16x1x512 .i32) (h : (data V c).ArrAt 4 cfg1.N G) : G = codes (arrays V) := by
  funext j
  have hj : (j 0).val < 16 := (j 0).isLt
  let t : Fin cfg1.N := ⟨16 + (j 0).val, by show _ < 32; omega⟩
  let y : S1x1x512.Idx := Idealize.ShloMosaic.ix3 0 (j 1) (j 2)
  have ht : t.val % 16 = (j 0).val := by show (16 + (j 0).val) % 16 = _; omega
  have hy : (win1_4.blk t).view.emb y = j := by
    rw [emb4]
    funext a
    match a with
    | 0 => exact Fin.ext ht
    | 1 => rfl
    | 2 => rfl
  obtain ⟨X, ⟨Z, -, hX⟩, e⟩ := written (data V c) 4 flush1_4 t y (fun u hu hm => by
    obtain ⟨z, -, hz⟩ := Finset.mem_map.mp hm
    have hz' : (win1_4.blk u).view.emb z = (win1_4.blk t).view.emb y := hz
    rw [emb4, emb4] at hz'
    have h0 : u.val % 16 = t.val % 16 := congrArg (fun f : S16x1x512.Idx => (f 0).val) hz'
    have hu32 : u.val < 32 := u.isLt
    have ht' : t.val = 16 + (j 0).val := rfl
    omega) cfg1.N G t.isLt h
  have hX' : X = outBlock (arrays V) (t.val % 16) := hX (by show 16 ≤ 16 + (j 0).val; omega)
  have e' : G ((win1_4.blk t).view.emb y) = X y := e
  rw [hy] at e'
  rw [e', hX', ht]
  rfl

theorem enter : (Pipeline.scopedRest (Ix := Unit) (Name := ℕ) (U := UR sig nD τ) (Lvl := ℕ) (Val := Elt F) spec1 c : sProp 𝕄)
    ⊢ (data V c).Φ 0 := by
  rw [scopedRest1_split]
  show _ ⊢ inv (arrays V) c 0
  unfold inv
  simp only [owns_whole_eq]
  iintro ⟨⟨⟨%f, Hf⟩, %g, Hg⟩, Hr⟩
  iexists f; iexists g
  isplitr; · ipureintro; exact Inv.zero _ _ _
  isplitl [Hf]; · iexists f; isplitr; (· ipureintro; rfl); iexact Hf
  isplitl [Hg]; · iexists g; isplitr; (· ipureintro; rfl); iexact Hg
  iexact Hr

theorem leave : (data V c).Φ (Fin.last _)
    ⊢ (Pipeline.scopedRest (Ix := Unit) (Name := ℕ) (U := UR sig nD τ) (Lvl := ℕ) (Val := Elt F) spec1 c : sProp 𝕄) := by
  rw [scopedRest1_split]
  show inv (arrays V) c 32 ⊢ _
  unfold inv
  simp only [owns_whole_eq]
  iintro ⟨%G, %J, -, ⟨%f, -, Hf⟩, ⟨%g, -, Hg⟩, Hr⟩
  isplitl [Hf Hg]
  · isplitl [Hf]
    · iexists f; iexact Hf
    · iexists g; iexact Hg
  iexact Hr

/-- The valuation after the launch: the output array holds the code numbers. -/
def after (V : Valuation τ sig (Elt F)) : Valuation τ sig (Elt F) := Function.update V main_v20 (codes (arrays V))

theorem after_out : after V main_v20 = codes (arrays V) := Function.update_self (f := V) _ _

theorem after_ne (b : Ref sig .tc) (h : b ≠ main_v20) : after V b = V b :=
  Function.update_of_ne (f := V) (StableHlo.devRef_ne_of_ne h) _

/-- What an input array may hold after the launch. -/
theorem input_end (w : Fin cfg1.W) (hw : (cfg1.win w).isOut = false) (hne : Pipeline.arrRef spec1 w ≠ main_v20)
    (G : Buf (Elt F) ((cfg1.win w).arr.view.loc (c : Thread nD τ))) (h : (data V c).ArrAt w cfg1.N G) :
    G = after V (Pipeline.arrRef spec1 w) := by
  rw [(data V c).ArrAt_in w hw] at h
  exact h.trans (after_ne V _ hne).symm

set_option maxHeartbeats 2000000 in
/-- What each array may hold after the launch. -/
theorem arrays_end (w : Fin cfg1.W) (G : Buf (Elt F) ((cfg1.win w).arr.view.loc (c : Thread nD τ))) (h : (data V c).ArrAt w cfg1.N G) :
    G = after V (Pipeline.arrRef spec1 w) := by
  match w with
  | 0 => exact input_end V c 0 rfl (by decide) G h
  | 1 => exact input_end V c 1 rfl (by decide) G h
  | 2 => exact input_end V c 2 rfl (by decide) G h
  | 3 => exact input_end V c 3 rfl (by decide) G h
  | 4 => exact (out_eq V c G h).trans (after_out V).symm

theorem others_end (b : Ref sig .tc) (h : b ∉ Finset.univ.image (Pipeline.arrRef spec1)) : after V b = V b :=
  after_ne V b fun e => h (Finset.mem_image.mpr ⟨4, Finset.mem_univ _, e.symm⟩)

end Cert.Proof.Region1
end
-- ==== Proof.Region2.lean ====
/-
  The third launch: its windows' blocks, its body at every point, and its output array.
-/
module

public import proofs.«01_k».proof.Proof.Level
public import proofs.«01_k».proof.Proof.Bodies
public import proofs.«01_k».proof.Proof.Windows
public import proofs.«01_k».proof.Proof.Gen.KernelIdeal.Points
public import Idealize.ShloMosaic.Lib.Pipeline.ValueKit.Geometry

@[expose] public section
noncomputable section
namespace Cert.Proof.Region2
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
local notation "𝕄" => MT nD τ sig Unit (Elt F) ℕ (UR sig nD τ) ℕ

/-- The arrays the launch reads, at a valuation. -/
def arrays (V : Valuation τ sig (Elt F)) : Arrays F := ⟨V main_v25, V main_v23, V main_v28, V main_v31⟩

/-- The invariant: the scratch rows as `Inv` says, and the scoped buffers the launch does not use. -/
def inv (A : Arrays F) (c : Dev nD) (t : ℕ) : sProp 𝕄 :=
  iprop(∃ G J, ⌜Inv A t G J⌝ ∗ owns (c : Thread nD τ) (Memref.whole cc2_scratch0) fullShare G
    ∗ owns (c : Thread nD τ) (Memref.whole cc2_scratch1) fullShare J
    ∗ Pipeline.scopedRestBut (Ix := Unit) (Name := ℕ) (U := UR sig nD τ) (Lvl := ℕ) (Val := Elt F) spec2 c [cc2_scratch0, cc2_scratch1])

/-- The launch's data: the inputs stay as found; at a point of the second tile the output buffer is left at the block's
    code numbers. -/
def data (V : Valuation τ sig (Elt F)) (c : Dev nD) : RDat τ (Elt F) Unit ℕ (UR sig nD τ) ℕ cfg2 c where
  A w := V (Pipeline.arrRef spec2 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => 16 ≤ t.val → X = outBlock (arrays V) (t.val % 16)
  Φ t := inv (arrays V) c t.val
  q _ := fullShare
  owed _ := 0

theorem coords_val : ∀ t : Fin grid2.N, (grid2.coords t 0).val = t.val / 16 ∧ (grid2.coords t 1).val = t.val % 16 := by
  decide +kernel

variable (V : Valuation τ sig (Elt F)) (c : Dev nD)

theorem index_val : ∀ t : Fin grid2.N, (win2_0.index t 0 = t.val / 16 ∧ win2_0.index t 1 = 0)
    ∧ (win2_1.index t 0 = t.val % 16 ∧ win2_1.index t 1 = 0) ∧ (win2_2.index t 0 = t.val / 16 ∧ win2_2.index t 1 = 0)
    ∧ (win2_3.index t 0 = 0 ∧ win2_3.index t 1 = t.val % 16)
    ∧ (win2_4.index t 0 = t.val % 16 ∧ win2_4.index t 1 = 0 ∧ win2_4.index t 2 = 0) := by
  decide +kernel

theorem found0 (t : Fin cfg2.N) (Y : (cfg2.win 0).block.Idx → Elt F (cfg2.win 0).elt) (h : (data V c).Finds 0 t Y) :
    Y = tileE (arrays V).E (grid2.coords t 0).val := by
  funext j
  refine (found (data V c) 0 rfl (fun _ _ => rfl) (fun _ _ _ h => h) t Y h j (fun a => (j a).isLt)).trans ?_
  obtain ⟨h0, h1⟩ := coords_val t
  obtain ⟨e0, e1⟩ := (index_val t).1
  have hj : (j 0).val < 4096 := (j 0).isLt
  have ht : t.val < 32 := t.isLt
  refine congrArg (V main_v25) (funext fun a => Fin.ext ?_)
  refine (Window.rect_emb_val win2_0 t _ a).trans ?_
  match a with
  | 0 =>
    show win2_0.index t 0 * 4096 + (j 0).val = (4096 * (grid2.coords t 0).val + (j 0).val) % 8192
    omega
  | 1 =>
    show win2_0.index t 1 * 256 + (j 1).val = (j 1).val
    omega

theorem found1 (t : Fin cfg2.N) (Y : (cfg2.win 1).block.Idx → Elt F (cfg2.win 1).elt) (h : (data V c).Finds 1 t Y) :
    Y = blockR (arrays V).R (grid2.coords t 1).val := by
  funext j
  refine (found (data V c) 1 rfl (fun _ _ => rfl) (fun _ _ _ h => h) t Y h j (fun a => (j a).isLt)).trans ?_
  obtain ⟨h0, h1⟩ := coords_val t
  obtain ⟨e0, e1⟩ := (index_val t).2.1
  have hj : (j 0).val < 512 := (j 0).isLt
  have ht : t.val < 32 := t.isLt
  refine congrArg (V main_v23) (funext fun a => Fin.ext ?_)
  refine (Window.rect_emb_val win2_1 t _ a).trans ?_
  match a with
  | 0 =>
    show win2_1.index t 0 * 512 + (j 0).val = (512 * (grid2.coords t 1).val + (j 0).val) % 8192
    omega
  | 1 =>
    show win2_1.index t 1 * 256 + (j 1).val = (j 1).val
    omega

theorem found2 (t : Fin cfg2.N) (Y : (cfg2.win 2).block.Idx → Elt F (cfg2.win 2).elt) (h : (data V c).Finds 2 t Y) :
    Y = tileN (arrays V).N (grid2.coords t 0).val := by
  funext j
  refine (found (data V c) 2 rfl (fun _ _ => rfl) (fun _ _ _ h => h) t Y h j (fun a => (j a).isLt)).trans ?_
  obtain ⟨h0, h1⟩ := coords_val t
  obtain ⟨e0, e1⟩ := (index_val t).2.2.1
  have hj : (j 0).val < 4096 := (j 0).isLt
  have ht : t.val < 32 := t.isLt
  refine congrArg (V main_v28) (funext fun a => Fin.ext ?_)
  refine (Window.rect_emb_val win2_2 t _ a).trans ?_
  match a with
  | 0 =>
    show win2_2.index t 0 * 4096 + (j 0).val = (4096 * (grid2.coords t 0).val + (j 0).val) % 8192
    omega
  | 1 =>
    show win2_2.index t 1 * 1 + (j 1).val = (j 1).val
    omega

theorem found3 (t : Fin cfg2.N) (Y : (cfg2.win 3).block.Idx → Elt F (cfg2.win 3).elt) (h : (data V c).Finds 3 t Y) :
    Y = slot (arrays V).D (grid2.coords t 1).val := by
  funext j
  refine (found (data V c) 3 rfl (fun _ _ => rfl) (fun _ _ _ h => h) t Y h j (fun a => (j a).isLt)).trans ?_
  obtain ⟨h0, h1⟩ := coords_val t
  obtain ⟨e0, e1⟩ := (index_val t).2.2.2.1
  have hj : (j 1).val < 512 := (j 1).isLt
  have ht : t.val < 32 := t.isLt
  refine congrArg (V main_v31) (funext fun a => Fin.ext ?_)
  refine (Window.rect_emb_val win2_3 t _ a).trans ?_
  match a with
  | 0 =>
    show win2_3.index t 0 * 1 + (j 0).val = (j 0).val
    omega
  | 1 =>
    show win2_3.index t 1 * 512 + (j 1).val = (512 * (grid2.coords t 1).val + (j 1).val) % 8192
    omega

set_option maxHeartbeats 1000000 in
theorem body_obligation : (data V c).BodyObligation (defs₀ (F := F)) Variants.none () Set.univ := fun t Y hY => by
  rw [bigSep_W2, bigSep_W2]
  rw [show defs₀ (F := F) .tc cfg2.body (cfg2.bodyArgs t (cfg2.slots t)) = bodyAt2 t from by unfold defs₀; rw [Defs.onTc_tc]]
  rw [show (data V c).Φ t.castSucc = inv (arrays V) c t.val from rfl, show (data V c).Φ t.succ = inv (arrays V) c (t.val + 1) from rfl,
    show (data V c).owesAt () t.succ = (data V c).owesAt () t.castSucc from rfl]
  have e0 := found0 V c t (Y 0) (hY 0)
  have e1 := found1 V c t (Y 1) (hY 1)
  have e2 := found2 V c t (Y 2) (hY 2)
  have e3 := found3 V c t (Y 3) (hY 3)
  rw [e0, e1, e2, e3]
  obtain ⟨h0, h1⟩ := coords_val t
  unfold inv
  iintro ⟨⟨%G, %J, %hI, HG, HJ, Hr⟩, Howes, H0, H1, H2, H3, H4⟩
  unfold bodyAt2
  rw [body2_eq]
  iapply (body_run c (grid2.coords t) _ _ _ _ _ _ _ _ _ _ _ _ _ _ _ _ _ _ (Y 4) G J)
  isplitl [H0]; · iexact H0
  isplitl [H1]; · iexact H1
  isplitl [H2]; · iexact H2
  isplitl [H3]; · iexact H3
  isplitl [H4]; · iexact H4
  isplitl [HG]; · iexact HG
  isplitl [HJ]; · iexact HJ
  iintro ⟨H0, H1, H2, H3, H4, HG, HJ⟩
  isplitl [HG HJ Hr]
  · iexists _; iexists _
    isplitr; · ipureintro; exact hI.next (grid2.coords t) h0 h1
    isplitl [HG]; · iexact HG
    isplitl [HJ]; · iexact HJ
    iexact Hr
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  iexists _; isplitr; swap; (· iexact H4)
  ipureintro
  intro ht
  have hne : (grid2.coords t 0).val ≠ 0 := by omega
  rw [if_neg hne, hI.out (grid2.coords t) h0 h1 hne, h1]

/-- Element `y` of block `b` of the output sits at `(b, y 1, y 2)`. -/
theorem emb4 (t : Fin cfg2.N) (y : S1x1x512.Idx) :
    (win2_4.blk t).view.emb y = (Idealize.ShloMosaic.ix3 ⟨t.val % 16, Nat.mod_lt _ (by decide)⟩ (y 1) (y 2) : S16x1x512.Idx) := by
  obtain ⟨e0, e1, e2⟩ := (index_val t).2.2.2.2
  funext a
  refine Fin.ext ((Window.rect_emb_val win2_4 t _ a).trans ?_)
  have hy : (y 0).val < 1 := (y 0).isLt
  match a with
  | 0 =>
    show win2_4.index t 0 * 1 + (y 0).val = t.val % 16
    omega
  | 1 =>
    show win2_4.index t 1 * 1 + (y 1).val = (y 1).val
    omega
  | 2 =>
    show win2_4.index t 2 * 512 + (y 2).val = (y 2).val
    omega

/-- The output array after the launch. -/
theorem out_eq (G : Vec F S16x1x512 .i32) (h : (data V c).ArrAt 4 cfg2.N G) : G = codes (arrays V) := by
  funext j
  have hj : (j 0).val < 16 := (j 0).isLt
  let t : Fin cfg2.N := ⟨16 + (j 0).val, by show _ < 32; omega⟩
  let y : S1x1x512.Idx := Idealize.ShloMosaic.ix3 0 (j 1) (j 2)
  have ht : t.val % 16 = (j 0).val := by show (16 + (j 0).val) % 16 = _; omega
  have hy : (win2_4.blk t).view.emb y = j := by
    rw [emb4]
    funext a
    match a with
    | 0 => exact Fin.ext ht
    | 1 => rfl
    | 2 => rfl
  obtain ⟨X, ⟨Z, -, hX⟩, e⟩ := written (data V c) 4 flush2_4 t y (fun u hu hm => by
    obtain ⟨z, -, hz⟩ := Finset.mem_map.mp hm
    have hz' : (win2_4.blk u).view.emb z = (win2_4.blk t).view.emb y := hz
    rw [emb4, emb4] at hz'
    have h0 : u.val % 16 = t.val % 16 := congrArg (fun f : S16x1x512.Idx => (f 0).val) hz'
    have hu32 : u.val < 32 := u.isLt
    have ht' : t.val = 16 + (j 0).val := rfl
    omega) cfg2.N G t.isLt h
  have hX' : X = outBlock (arrays V) (t.val % 16) := hX (by show 16 ≤ 16 + (j 0).val; omega)
  have e' : G ((win2_4.blk t).view.emb y) = X y := e
  rw [hy] at e'
  rw [e', hX', ht]
  rfl

theorem enter : (Pipeline.scopedRest (Ix := Unit) (Name := ℕ) (U := UR sig nD τ) (Lvl := ℕ) (Val := Elt F) spec2 c : sProp 𝕄)
    ⊢ (data V c).Φ 0 := by
  rw [scopedRest2_split]
  show _ ⊢ inv (arrays V) c 0
  unfold inv
  simp only [owns_whole_eq]
  iintro ⟨⟨⟨%f, Hf⟩, %g, Hg⟩, Hr⟩
  iexists f; iexists g
  isplitr; · ipureintro; exact Inv.zero _ _ _
  isplitl [Hf]; · iexists f; isplitr; (· ipureintro; rfl); iexact Hf
  isplitl [Hg]; · iexists g; isplitr; (· ipureintro; rfl); iexact Hg
  iexact Hr

theorem leave : (data V c).Φ (Fin.last _)
    ⊢ (Pipeline.scopedRest (Ix := Unit) (Name := ℕ) (U := UR sig nD τ) (Lvl := ℕ) (Val := Elt F) spec2 c : sProp 𝕄) := by
  rw [scopedRest2_split]
  show inv (arrays V) c 32 ⊢ _
  unfold inv
  simp only [owns_whole_eq]
  iintro ⟨%G, %J, -, ⟨%f, -, Hf⟩, ⟨%g, -, Hg⟩, Hr⟩
  isplitl [Hf Hg]
  · isplitl [Hf]
    · iexists f; iexact Hf
    · iexists g; iexact Hg
  iexact Hr

/-- The valuation after the launch: the output array holds the code numbers. -/
def after (V : Valuation τ sig (Elt F)) : Valuation τ sig (Elt F) := Function.update V main_v32 (codes (arrays V))

theorem after_out : after V main_v32 = codes (arrays V) := Function.update_self (f := V) _ _

theorem after_ne (b : Ref sig .tc) (h : b ≠ main_v32) : after V b = V b :=
  Function.update_of_ne (f := V) (StableHlo.devRef_ne_of_ne h) _

/-- What an input array may hold after the launch. -/
theorem input_end (w : Fin cfg2.W) (hw : (cfg2.win w).isOut = false) (hne : Pipeline.arrRef spec2 w ≠ main_v32)
    (G : Buf (Elt F) ((cfg2.win w).arr.view.loc (c : Thread nD τ))) (h : (data V c).ArrAt w cfg2.N G) :
    G = after V (Pipeline.arrRef spec2 w) := by
  rw [(data V c).ArrAt_in w hw] at h
  exact h.trans (after_ne V _ hne).symm

set_option maxHeartbeats 2000000 in
/-- What each array may hold after the launch. -/
theorem arrays_end (w : Fin cfg2.W) (G : Buf (Elt F) ((cfg2.win w).arr.view.loc (c : Thread nD τ))) (h : (data V c).ArrAt w cfg2.N G) :
    G = after V (Pipeline.arrRef spec2 w) := by
  match w with
  | 0 => exact input_end V c 0 rfl (by decide) G h
  | 1 => exact input_end V c 1 rfl (by decide) G h
  | 2 => exact input_end V c 2 rfl (by decide) G h
  | 3 => exact input_end V c 3 rfl (by decide) G h
  | 4 => exact (out_eq V c G h).trans (after_out V).symm

theorem others_end (b : Ref sig .tc) (h : b ∉ Finset.univ.image (Pipeline.arrRef spec2)) : after V b = V b :=
  after_ne V b fun e => h (Finset.mem_image.mpr ⟨4, Finset.mem_univ _, e.symm⟩)

end Cert.Proof.Region2
end
-- ==== Proof.Region3.lean ====
/-
  The fourth launch: its windows' blocks, its body at every point, and its output array.
-/
module

public import proofs.«01_k».proof.Proof.Level
public import proofs.«01_k».proof.Proof.Bodies
public import proofs.«01_k».proof.Proof.Windows
public import proofs.«01_k».proof.Proof.Gen.KernelIdeal.Points
public import Idealize.ShloMosaic.Lib.Pipeline.ValueKit.Geometry

@[expose] public section
noncomputable section
namespace Cert.Proof.Region3
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
local notation "𝕄" => MT nD τ sig Unit (Elt F) ℕ (UR sig nD τ) ℕ

/-- The arrays the launch reads, at a valuation. -/
def arrays (V : Valuation τ sig (Elt F)) : Arrays F := ⟨V main_v37, V main_v35, V main_v40, V main_v43⟩

/-- The invariant: the scratch rows as `Inv` says, and the scoped buffers the launch does not use. -/
def inv (A : Arrays F) (c : Dev nD) (t : ℕ) : sProp 𝕄 :=
  iprop(∃ G J, ⌜Inv A t G J⌝ ∗ owns (c : Thread nD τ) (Memref.whole cc3_scratch0) fullShare G
    ∗ owns (c : Thread nD τ) (Memref.whole cc3_scratch1) fullShare J
    ∗ Pipeline.scopedRestBut (Ix := Unit) (Name := ℕ) (U := UR sig nD τ) (Lvl := ℕ) (Val := Elt F) spec3 c [cc3_scratch0, cc3_scratch1])

/-- The launch's data: the inputs stay as found; at a point of the second tile the output buffer is left at the block's
    code numbers. -/
def data (V : Valuation τ sig (Elt F)) (c : Dev nD) : RDat τ (Elt F) Unit ℕ (UR sig nD τ) ℕ cfg3 c where
  A w := V (Pipeline.arrRef spec3 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => 16 ≤ t.val → X = outBlock (arrays V) (t.val % 16)
  Φ t := inv (arrays V) c t.val
  q _ := fullShare
  owed _ := 0

theorem coords_val : ∀ t : Fin grid3.N, (grid3.coords t 0).val = t.val / 16 ∧ (grid3.coords t 1).val = t.val % 16 := by
  decide +kernel

variable (V : Valuation τ sig (Elt F)) (c : Dev nD)

theorem index_val : ∀ t : Fin grid3.N, (win3_0.index t 0 = t.val / 16 ∧ win3_0.index t 1 = 0)
    ∧ (win3_1.index t 0 = t.val % 16 ∧ win3_1.index t 1 = 0) ∧ (win3_2.index t 0 = t.val / 16 ∧ win3_2.index t 1 = 0)
    ∧ (win3_3.index t 0 = 0 ∧ win3_3.index t 1 = t.val % 16)
    ∧ (win3_4.index t 0 = t.val % 16 ∧ win3_4.index t 1 = 0 ∧ win3_4.index t 2 = 0) := by
  decide +kernel

theorem found0 (t : Fin cfg3.N) (Y : (cfg3.win 0).block.Idx → Elt F (cfg3.win 0).elt) (h : (data V c).Finds 0 t Y) :
    Y = tileE (arrays V).E (grid3.coords t 0).val := by
  funext j
  refine (found (data V c) 0 rfl (fun _ _ => rfl) (fun _ _ _ h => h) t Y h j (fun a => (j a).isLt)).trans ?_
  obtain ⟨h0, h1⟩ := coords_val t
  obtain ⟨e0, e1⟩ := (index_val t).1
  have hj : (j 0).val < 4096 := (j 0).isLt
  have ht : t.val < 32 := t.isLt
  refine congrArg (V main_v37) (funext fun a => Fin.ext ?_)
  refine (Window.rect_emb_val win3_0 t _ a).trans ?_
  match a with
  | 0 =>
    show win3_0.index t 0 * 4096 + (j 0).val = (4096 * (grid3.coords t 0).val + (j 0).val) % 8192
    omega
  | 1 =>
    show win3_0.index t 1 * 256 + (j 1).val = (j 1).val
    omega

theorem found1 (t : Fin cfg3.N) (Y : (cfg3.win 1).block.Idx → Elt F (cfg3.win 1).elt) (h : (data V c).Finds 1 t Y) :
    Y = blockR (arrays V).R (grid3.coords t 1).val := by
  funext j
  refine (found (data V c) 1 rfl (fun _ _ => rfl) (fun _ _ _ h => h) t Y h j (fun a => (j a).isLt)).trans ?_
  obtain ⟨h0, h1⟩ := coords_val t
  obtain ⟨e0, e1⟩ := (index_val t).2.1
  have hj : (j 0).val < 512 := (j 0).isLt
  have ht : t.val < 32 := t.isLt
  refine congrArg (V main_v35) (funext fun a => Fin.ext ?_)
  refine (Window.rect_emb_val win3_1 t _ a).trans ?_
  match a with
  | 0 =>
    show win3_1.index t 0 * 512 + (j 0).val = (512 * (grid3.coords t 1).val + (j 0).val) % 8192
    omega
  | 1 =>
    show win3_1.index t 1 * 256 + (j 1).val = (j 1).val
    omega

theorem found2 (t : Fin cfg3.N) (Y : (cfg3.win 2).block.Idx → Elt F (cfg3.win 2).elt) (h : (data V c).Finds 2 t Y) :
    Y = tileN (arrays V).N (grid3.coords t 0).val := by
  funext j
  refine (found (data V c) 2 rfl (fun _ _ => rfl) (fun _ _ _ h => h) t Y h j (fun a => (j a).isLt)).trans ?_
  obtain ⟨h0, h1⟩ := coords_val t
  obtain ⟨e0, e1⟩ := (index_val t).2.2.1
  have hj : (j 0).val < 4096 := (j 0).isLt
  have ht : t.val < 32 := t.isLt
  refine congrArg (V main_v40) (funext fun a => Fin.ext ?_)
  refine (Window.rect_emb_val win3_2 t _ a).trans ?_
  match a with
  | 0 =>
    show win3_2.index t 0 * 4096 + (j 0).val = (4096 * (grid3.coords t 0).val + (j 0).val) % 8192
    omega
  | 1 =>
    show win3_2.index t 1 * 1 + (j 1).val = (j 1).val
    omega

theorem found3 (t : Fin cfg3.N) (Y : (cfg3.win 3).block.Idx → Elt F (cfg3.win 3).elt) (h : (data V c).Finds 3 t Y) :
    Y = slot (arrays V).D (grid3.coords t 1).val := by
  funext j
  refine (found (data V c) 3 rfl (fun _ _ => rfl) (fun _ _ _ h => h) t Y h j (fun a => (j a).isLt)).trans ?_
  obtain ⟨h0, h1⟩ := coords_val t
  obtain ⟨e0, e1⟩ := (index_val t).2.2.2.1
  have hj : (j 1).val < 512 := (j 1).isLt
  have ht : t.val < 32 := t.isLt
  refine congrArg (V main_v43) (funext fun a => Fin.ext ?_)
  refine (Window.rect_emb_val win3_3 t _ a).trans ?_
  match a with
  | 0 =>
    show win3_3.index t 0 * 1 + (j 0).val = (j 0).val
    omega
  | 1 =>
    show win3_3.index t 1 * 512 + (j 1).val = (512 * (grid3.coords t 1).val + (j 1).val) % 8192
    omega

set_option maxHeartbeats 1000000 in
theorem body_obligation : (data V c).BodyObligation (defs₀ (F := F)) Variants.none () Set.univ := fun t Y hY => by
  rw [bigSep_W3, bigSep_W3]
  rw [show defs₀ (F := F) .tc cfg3.body (cfg3.bodyArgs t (cfg3.slots t)) = bodyAt3 t from by unfold defs₀; rw [Defs.onTc_tc]]
  rw [show (data V c).Φ t.castSucc = inv (arrays V) c t.val from rfl, show (data V c).Φ t.succ = inv (arrays V) c (t.val + 1) from rfl,
    show (data V c).owesAt () t.succ = (data V c).owesAt () t.castSucc from rfl]
  have e0 := found0 V c t (Y 0) (hY 0)
  have e1 := found1 V c t (Y 1) (hY 1)
  have e2 := found2 V c t (Y 2) (hY 2)
  have e3 := found3 V c t (Y 3) (hY 3)
  rw [e0, e1, e2, e3]
  obtain ⟨h0, h1⟩ := coords_val t
  unfold inv
  iintro ⟨⟨%G, %J, %hI, HG, HJ, Hr⟩, Howes, H0, H1, H2, H3, H4⟩
  unfold bodyAt3
  rw [body3_eq]
  iapply (body_run c (grid3.coords t) _ _ _ _ _ _ _ _ _ _ _ _ _ _ _ _ _ _ (Y 4) G J)
  isplitl [H0]; · iexact H0
  isplitl [H1]; · iexact H1
  isplitl [H2]; · iexact H2
  isplitl [H3]; · iexact H3
  isplitl [H4]; · iexact H4
  isplitl [HG]; · iexact HG
  isplitl [HJ]; · iexact HJ
  iintro ⟨H0, H1, H2, H3, H4, HG, HJ⟩
  isplitl [HG HJ Hr]
  · iexists _; iexists _
    isplitr; · ipureintro; exact hI.next (grid3.coords t) h0 h1
    isplitl [HG]; · iexact HG
    isplitl [HJ]; · iexact HJ
    iexact Hr
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  iexists _; isplitr; swap; (· iexact H4)
  ipureintro
  intro ht
  have hne : (grid3.coords t 0).val ≠ 0 := by omega
  rw [if_neg hne, hI.out (grid3.coords t) h0 h1 hne, h1]

/-- Element `y` of block `b` of the output sits at `(b, y 1, y 2)`. -/
theorem emb4 (t : Fin cfg3.N) (y : S1x1x512.Idx) :
    (win3_4.blk t).view.emb y = (Idealize.ShloMosaic.ix3 ⟨t.val % 16, Nat.mod_lt _ (by decide)⟩ (y 1) (y 2) : S16x1x512.Idx) := by
  obtain ⟨e0, e1, e2⟩ := (index_val t).2.2.2.2
  funext a
  refine Fin.ext ((Window.rect_emb_val win3_4 t _ a).trans ?_)
  have hy : (y 0).val < 1 := (y 0).isLt
  match a with
  | 0 =>
    show win3_4.index t 0 * 1 + (y 0).val = t.val % 16
    omega
  | 1 =>
    show win3_4.index t 1 * 1 + (y 1).val = (y 1).val
    omega
  | 2 =>
    show win3_4.index t 2 * 512 + (y 2).val = (y 2).val
    omega

/-- The output array after the launch. -/
theorem out_eq (G : Vec F S16x1x512 .i32) (h : (data V c).ArrAt 4 cfg3.N G) : G = codes (arrays V) := by
  funext j
  have hj : (j 0).val < 16 := (j 0).isLt
  let t : Fin cfg3.N := ⟨16 + (j 0).val, by show _ < 32; omega⟩
  let y : S1x1x512.Idx := Idealize.ShloMosaic.ix3 0 (j 1) (j 2)
  have ht : t.val % 16 = (j 0).val := by show (16 + (j 0).val) % 16 = _; omega
  have hy : (win3_4.blk t).view.emb y = j := by
    rw [emb4]
    funext a
    match a with
    | 0 => exact Fin.ext ht
    | 1 => rfl
    | 2 => rfl
  obtain ⟨X, ⟨Z, -, hX⟩, e⟩ := written (data V c) 4 flush3_4 t y (fun u hu hm => by
    obtain ⟨z, -, hz⟩ := Finset.mem_map.mp hm
    have hz' : (win3_4.blk u).view.emb z = (win3_4.blk t).view.emb y := hz
    rw [emb4, emb4] at hz'
    have h0 : u.val % 16 = t.val % 16 := congrArg (fun f : S16x1x512.Idx => (f 0).val) hz'
    have hu32 : u.val < 32 := u.isLt
    have ht' : t.val = 16 + (j 0).val := rfl
    omega) cfg3.N G t.isLt h
  have hX' : X = outBlock (arrays V) (t.val % 16) := hX (by show 16 ≤ 16 + (j 0).val; omega)
  have e' : G ((win3_4.blk t).view.emb y) = X y := e
  rw [hy] at e'
  rw [e', hX', ht]
  rfl

theorem enter : (Pipeline.scopedRest (Ix := Unit) (Name := ℕ) (U := UR sig nD τ) (Lvl := ℕ) (Val := Elt F) spec3 c : sProp 𝕄)
    ⊢ (data V c).Φ 0 := by
  rw [scopedRest3_split]
  show _ ⊢ inv (arrays V) c 0
  unfold inv
  simp only [owns_whole_eq]
  iintro ⟨⟨⟨%f, Hf⟩, %g, Hg⟩, Hr⟩
  iexists f; iexists g
  isplitr; · ipureintro; exact Inv.zero _ _ _
  isplitl [Hf]; · iexists f; isplitr; (· ipureintro; rfl); iexact Hf
  isplitl [Hg]; · iexists g; isplitr; (· ipureintro; rfl); iexact Hg
  iexact Hr

theorem leave : (data V c).Φ (Fin.last _)
    ⊢ (Pipeline.scopedRest (Ix := Unit) (Name := ℕ) (U := UR sig nD τ) (Lvl := ℕ) (Val := Elt F) spec3 c : sProp 𝕄) := by
  rw [scopedRest3_split]
  show inv (arrays V) c 32 ⊢ _
  unfold inv
  simp only [owns_whole_eq]
  iintro ⟨%G, %J, -, ⟨%f, -, Hf⟩, ⟨%g, -, Hg⟩, Hr⟩
  isplitl [Hf Hg]
  · isplitl [Hf]
    · iexists f; iexact Hf
    · iexists g; iexact Hg
  iexact Hr

/-- The valuation after the launch: the output array holds the code numbers. -/
def after (V : Valuation τ sig (Elt F)) : Valuation τ sig (Elt F) := Function.update V main_v44 (codes (arrays V))

theorem after_out : after V main_v44 = codes (arrays V) := Function.update_self (f := V) _ _

theorem after_ne (b : Ref sig .tc) (h : b ≠ main_v44) : after V b = V b :=
  Function.update_of_ne (f := V) (StableHlo.devRef_ne_of_ne h) _

/-- What an input array may hold after the launch. -/
theorem input_end (w : Fin cfg3.W) (hw : (cfg3.win w).isOut = false) (hne : Pipeline.arrRef spec3 w ≠ main_v44)
    (G : Buf (Elt F) ((cfg3.win w).arr.view.loc (c : Thread nD τ))) (h : (data V c).ArrAt w cfg3.N G) :
    G = after V (Pipeline.arrRef spec3 w) := by
  rw [(data V c).ArrAt_in w hw] at h
  exact h.trans (after_ne V _ hne).symm

set_option maxHeartbeats 2000000 in
/-- What each array may hold after the launch. -/
theorem arrays_end (w : Fin cfg3.W) (G : Buf (Elt F) ((cfg3.win w).arr.view.loc (c : Thread nD τ))) (h : (data V c).ArrAt w cfg3.N G) :
    G = after V (Pipeline.arrRef spec3 w) := by
  match w with
  | 0 => exact input_end V c 0 rfl (by decide) G h
  | 1 => exact input_end V c 1 rfl (by decide) G h
  | 2 => exact input_end V c 2 rfl (by decide) G h
  | 3 => exact input_end V c 3 rfl (by decide) G h
  | 4 => exact (out_eq V c G h).trans (after_out V).symm

theorem others_end (b : Ref sig .tc) (h : b ∉ Finset.univ.image (Pipeline.arrRef spec3)) : after V b = V b :=
  after_ne V b fun e => h (Finset.mem_image.mpr ⟨4, Finset.mem_univ _, e.symm⟩)

end Cert.Proof.Region3
end
-- ==== Proof.Run.lean ====
/-
  The whole kernel program: what every buffer holds at the end of any run.
-/
module

public import proofs.«01_k».proof.Proof.Region0
public import proofs.«01_k».proof.Proof.Region1
public import proofs.«01_k».proof.Proof.Region2
public import proofs.«01_k».proof.Proof.Region3
public import proofs.«01_k».proof.Proof.Gen.KernelIdeal.Regions
public import Idealize.ShloMosaic.Lib.StableHlo.RunHlo

@[expose] public section
noncomputable section
namespace Cert.Proof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]
local notation "𝕄" => MT nD τ sig Unit (Elt F) ℕ (UR sig nD τ) ℕ

variable (m : (ℓ : Loc nD τ sig) → Buf (Elt F) ℓ)

/-! ## What the launches leave, one after another -/

/-- The buffers after the first launch. -/
def left0 (c : Dev nD) : Valuation τ sig (Elt F) := Region0.after (V1 m c)
/-- What is known of the launches' outputs after the first. -/
def known0 : Outs (F := F) := fun _ r c => left0 m c r
/-- The buffers after the second launch. -/
def left1 (c : Dev nD) : Valuation τ sig (Elt F) := Region1.after (V5 m (known0 m) c)
/-- What is known of the launches' outputs after the second. -/
def known1 : Outs (F := F) := fun j r c => match j with
  | 2 => left0 m c r
  | _ => left1 m c r
/-- The buffers after the third launch. -/
def left2 (c : Dev nD) : Valuation τ sig (Elt F) := Region2.after (V9 m (known1 m) c)
/-- What is known of the launches' outputs after the third. -/
def known2 : Outs (F := F) := fun j r c => match j with
  | 2 => left0 m c r
  | 6 => left1 m c r
  | _ => left2 m c r
/-- The buffers after the fourth launch. -/
def left3 (c : Dev nD) : Valuation τ sig (Elt F) := Region3.after (V13 m (known2 m) c)
/-- The launches' outputs. -/
def outs : Outs (F := F) := fun j r c => match j with
  | 2 => left0 m c r
  | 6 => left1 m c r
  | 10 => left2 m c r
  | _ => left3 m c r

/-- Changing one buffer to what a changed valuation says of it is that change. -/
theorem update_again (V : Valuation τ sig (Elt F)) (b : DevRef τ sig) (x : b.ty.Contents (Elt F)) :
    Function.update V b (Function.update V b x b) = Function.update V b x := by
  rw [Function.update_self]

theorem V2_eq (c : Dev nD) : V2 m (outs m) c = Region0.after (V1 m c) := update_again _ _ _
theorem V6_eq (c : Dev nD) : V6 m (outs m) c = Region1.after (V5 m (outs m) c) := update_again _ _ _
theorem V10_eq (c : Dev nD) : V10 m (outs m) c = Region2.after (V9 m (outs m) c) := update_again _ _ _
theorem V14_eq (c : Dev nD) : V14 m (outs m) c = Region3.after (V13 m (outs m) c) := update_again _ _ _

/-! ## The launches' data and records -/

/-- The four launches' data, each over the buffers as the run finds them. -/
def allData : (p : Fin 4) → (c : Dev nD) → RDat τ (Elt F) Unit ℕ (UR sig nD τ) ℕ (cfgs p) c
  | 0 => fun c => Region0.data (V1 m c) c
  | 1 => fun c => Region1.data (V5 m (outs m) c) c
  | 2 => fun c => Region2.data (V9 m (outs m) c) c
  | 3 => fun c => Region3.data (V13 m (outs m) c) c

/-- The first launch's record. -/
def record0 : RDat.RegionSeg (pcfgs (F := F)) adm (allData m) () defs₀ Variants.none noL noLv 0 :=
  launchRecord 0 (allData m) launch0 (V1 m) (V2 m (outs m)) (fun _ _ => rfl) (fun _ _ => rfl) (fun _ _ => rfl) (fun _ _ => rfl)
    (fun c => Region0.body_obligation (V1 m c) c) (fun c => Region0.enter (V1 m c) c) (fun c => Region0.leave (V1 m c) c)
    (fun c w G h => (Region0.arrays_end (V1 m c) c w G h).trans (congrFun (V2_eq m c).symm _))
    (fun c b h => (congrFun (V2_eq m c) _).trans (Region0.others_end (V1 m c) b h))

/-- The second launch's record. -/
def record1 : RDat.RegionSeg (pcfgs (F := F)) adm (allData m) () defs₀ Variants.none noL noLv 1 :=
  launchRecord 1 (allData m) launch1 (V5 m (outs m)) (V6 m (outs m)) (fun _ _ => rfl) (fun _ _ => rfl) (fun _ _ => rfl) (fun _ _ => rfl)
    (fun c => Region1.body_obligation (V5 m (outs m) c) c) (fun c => Region1.enter (V5 m (outs m) c) c)
    (fun c => Region1.leave (V5 m (outs m) c) c)
    (fun c w G h => (Region1.arrays_end (V5 m (outs m) c) c w G h).trans (congrFun (V6_eq m c).symm _))
    (fun c b h => (congrFun (V6_eq m c) _).trans (Region1.others_end (V5 m (outs m) c) b h))

/-- The third launch's record. -/
def record2 : RDat.RegionSeg (pcfgs (F := F)) adm (allData m) () defs₀ Variants.none noL noLv 2 :=
  launchRecord 2 (allData m) launch2 (V9 m (outs m)) (V10 m (outs m)) (fun _ _ => rfl) (fun _ _ => rfl) (fun _ _ => rfl) (fun _ _ => rfl)
    (fun c => Region2.body_obligation (V9 m (outs m) c) c) (fun c => Region2.enter (V9 m (outs m) c) c)
    (fun c => Region2.leave (V9 m (outs m) c) c)
    (fun c w G h => (Region2.arrays_end (V9 m (outs m) c) c w G h).trans (congrFun (V10_eq m c).symm _))
    (fun c b h => (congrFun (V10_eq m c) _).trans (Region2.others_end (V9 m (outs m) c) b h))

/-- The fourth launch's record. -/
def record3 : RDat.RegionSeg (pcfgs (F := F)) adm (allData m) () defs₀ Variants.none noL noLv 3 :=
  launchRecord 3 (allData m) launch3 (V13 m (outs m)) (V14 m (outs m)) (fun _ _ => rfl) (fun _ _ => rfl) (fun _ _ => rfl) (fun _ _ => rfl)
    (fun c => Region3.body_obligation (V13 m (outs m) c) c) (fun c => Region3.enter (V13 m (outs m) c) c)
    (fun c => Region3.leave (V13 m (outs m) c) c)
    (fun c w G h => (Region3.arrays_end (V13 m (outs m) c) c w G h).trans (congrFun (V14_eq m c).symm _))
    (fun c b h => (congrFun (V14_eq m c) _).trans (Region3.others_end (V13 m (outs m) c) b h))

/-- Beside the buffers a core owns only that it owes nothing. -/
def restOf (_ : Fin 5) (c : Dev nD) : sProp 𝕄 := iprop(∃ W, owes (c : Thread nD τ) (0 : CellTallies nD τ sig Unit) W)

/-- The program as its stretches and launches. -/
def parts : List (RDat.Seg (pcfgs (F := F)) adm (allData m) () defs₀ Variants.none noL noLv) :=
  [.host (seg0 m Variants.none noL noLv restOf), .region (record0 m),
   .host (seg2 m (outs m) Variants.none noL noLv restOf), .host (seg3 m (outs m) Variants.none noL noLv restOf),
   .host (seg4 m (outs m) Variants.none noL noLv restOf), .region (record1 m),
   .host (seg6 m (outs m) Variants.none noL noLv restOf), .host (seg7 m (outs m) Variants.none noL noLv restOf),
   .host (seg8 m (outs m) Variants.none noL noLv restOf), .region (record2 m),
   .host (seg10 m (outs m) Variants.none noL noLv restOf), .host (seg11 m (outs m) Variants.none noL noLv restOf),
   .host (seg12 m (outs m) Variants.none noL noLv restOf), .region (record3 m),
   .host (seg14 m (outs m) Variants.none noL noLv restOf), .host (seg15 m (outs m) Variants.none noL noLv restOf),
   .host (seg16 m (outs m) Variants.none noL noLv restOf)]

set_option backward.isDefEq.respectTransparency.types false in
/-- Running the parts is running the program. -/
theorem parts_run (c : Dev nD) : main (F := F) c = RDat.Seg.run (parts m) := by
  rewrite [main_chain c, RDat.Seg.run_eq_chain]
  rfl

/-- Each launch occurs once. -/
theorem parts_once : (RDat.Seg.pipes (parts m)).Nodup := by
  simp only [parts, RDat.Seg.pipes_host, RDat.Seg.pipes_region, RDat.Seg.pipes_nil]; decide

/-- The first tokens of the launches' cells. -/
def tokens : UR sig nD τ := initOf (Pipeline.cells cfgs cellOf_inj) (Pipeline.launchToks cfgs cellOf_inj)

set_option backward.isDefEq.respectTransparency.types false in
/-- Every run from zero counters ends with every unscoped buffer at the last valuation and every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = V17 m (outs m) c b) ∧ r.2.sem = fun _ => 0) := by
  refine RDat.θ_run_regions_kit_dev_sems (pcfgs (F := F)) adm (allData m) () cellOf_inj emb₁ defs₀ Variants.none noL noLv m ρ main
    (fun _ => parts m) (fun c Q => by rw [parts_run m c]) (fun _ => parts_once m) (fun _ => 0) (fun _ _ => rfl)
    (fun _ => iprop(emp)) tokens ?_
    (fun c => iprop(StableHlo.held (c : Thread nD τ) (Pipeline.ucRefs τ sig) (V0 m c) ∗ restOf 0 c))
    (fun c => StableHlo.held (c : Thread nD τ) (Pipeline.ucRefs τ sig) (V17 m (outs m) c))
    (fun c => ⟨.rfl, .rfl, .rfl, .rfl, .rfl, .rfl, .rfl, .rfl, .rfl, .rfl, .rfl, .rfl, .rfl, .rfl, .rfl, .rfl, .rfl, .rfl⟩)
    ?_ (fun c s => ∀ b ∈ Pipeline.ucRefs τ sig, s.mem ((c.tc : Thread nD τ).1, b) = V17 m (outs m) c b) (fun c s' => ?_)
    (fun _ h hz => ⟨h, funext fun g => hz g (.inr (regions_no_unscoped g.2))⟩)
  · iintro Hu
    imodintro
    isplitl [Hu]
    · iapply (show (ownU tokens : sProp 𝕄) ⊢ BI.own (emb₁ (initOf (Pipeline.cells (Pipeline.pin (pcfgs (F := F)) adm) cellOf_inj)
        (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noL noLv fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    unfold restOf
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    imodintro; iexact Hr

/-- A reference outside the scopes is one the run leaves at the last valuation. -/
theorem at_end {s : MemSt nD τ sig (Elt F)} {c : Dev nD}
    (h : ∀ b ∈ Pipeline.ucRefs τ sig, s.mem ((c.tc : Thread nD τ).1, b) = V17 m (outs m) c b)
    (r : Ref sig .tc) (hr : (Proc.devRef (τ := τ) .tc r) ∈ Pipeline.ucRefs τ sig) :
    s.mem ((c.tc : Thread nD τ).loc r) = V17 m (outs m) c r := h _ hr

/-- Every run leaves the arguments as they were and every counter at zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_all m ρ) fun r h => ⟨fun c =>
    ⟨(at_end m (h.1 c) main_arg0 (Finset.mem_filter.mpr ⟨StableHlo.devRef_mem_tcRefs main_arg0, by decide⟩)).trans (V17_main_arg0 m (outs m) c),
     (at_end m (h.1 c) main_arg1 (Finset.mem_filter.mpr ⟨StableHlo.devRef_mem_tcRefs main_arg1, by decide⟩)).trans (V17_main_arg1 m (outs m) c)⟩,
    h.2⟩

end Cert.Proof
end
-- ==== Proof.Transfer.lean ====
/-
  The kernel as given is the kernel with a named sentinel, over the machine's floats, once the name is read as its literal:
  so what is proved of every run of the second holds of the first.
-/
module

public import proofs.«01_k».proof.Proof.Run
public import proofs.«01_k».proof.Proof.Gen.Kernel
public import proofs.«01_k».proof.Defs

@[expose] public section
noncomputable section
namespace Cert.Proof
open Idealize.ShloMosaic Idealize.SL.Sem

open Idealize.ShloMosaic.TcCoe

/-- A name read as the literal it stands for. -/
instance literal : Named Bits where
  named _ _ {φ} b := FloatOps.ofBits φ b

set_option maxHeartbeats 10000000
set_option maxRecDepth 65536

/-- The launches' bodies are the same. -/
theorem body_same0 : Cert.Kernel.cc0__argmin_body (F := Bits) = Cert.KernelIdeal.cc0__argmin_body (F := Bits) := by rfl
theorem body_same1 : Cert.Kernel.cc1__argmin_body (F := Bits) = Cert.KernelIdeal.cc1__argmin_body (F := Bits) := by rfl
theorem body_same2 : Cert.Kernel.cc2__argmin_body (F := Bits) = Cert.KernelIdeal.cc2__argmin_body (F := Bits) := by rfl
theorem body_same3 : Cert.Kernel.cc3__argmin_body (F := Bits) = Cert.KernelIdeal.cc3__argmin_body (F := Bits) := by rfl

/-- The tables of bodies are the same. -/
theorem bodies_same : Cert.Kernel.defs₀ (F := Bits) = Cert.KernelIdeal.defs₀ (F := Bits) := by
  unfold Cert.Kernel.defs₀ Cert.KernelIdeal.defs₀
  congr 1
  funext l x
  obtain ⟨l, hl⟩ := l
  match l, hl, x with
  | 0, _, (t, s) => simp only [body_same0]; rfl
  | 1, _, (t, s) => simp only [body_same1]; rfl
  | 2, _, (t, s) => simp only [body_same2]; rfl
  | 3, _, (t, s) => simp only [body_same3]; rfl

/-- The launches' windows are the same. -/
theorem windows_same : Cert.Kernel.pcfgs (F := Bits) = Cert.KernelIdeal.pcfgs (F := Bits) := by rfl

/-- The two halves of the program are the same. -/
theorem part0_same : Cert.Kernel.main_part0 (F := Bits) = Cert.KernelIdeal.main_part0 (F := Bits) := by rfl
theorem part1_same : Cert.Kernel.main_part1 (F := Bits) = Cert.KernelIdeal.main_part1 (F := Bits) := by rfl

/-- The whole program is the same. -/
theorem main_same : Cert.Kernel.main (F := Bits) = Cert.KernelIdeal.main (F := Bits) := by
  funext d
  show (Cert.Kernel.main_part0 d >>= fun _ => Cert.Kernel.main_part1 d) = (Cert.KernelIdeal.main_part0 d >>= fun _ => Cert.KernelIdeal.main_part1 d)
  exact congrArg₂ (fun p q => p >>= fun _ => q) (congrFun part0_same d) (congrFun part1_same d)

/-- The whole table is the same. -/
theorem defs_same : Cert.Kernel.defs (F := Bits) = Cert.KernelIdeal.defs (F := Bits) :=
  congrArg (fun d => Pipeline.defs (Cert.KernelIdeal.pcfgs (F := Bits)) d) bodies_same

/-- Every run of the given kernel leaves its arguments as they were and every counter at zero. -/
theorem given_frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact run_frame (F := Bits) m ρ

end Cert.Proof
end
-- ==== Proof.RefFrame.lean ====
/-
  Every run of the reference leaves its arguments as they were and every counter at zero.
-/
module

public import proofs.«01_k».proof.Defs
public import proofs.«01_k».proof.Proof.Gen.ReferenceIdeal
public import Idealize.ShloMosaic.Lib.StableHlo.RunHlo
public import Idealize.ShloMosaic.Lib.Claim

@[expose] public section
noncomputable section
namespace Cert.Proof
open Idealize.ShloMosaic Idealize.SL.Sem
open Idealize.ShloMosaic.TcCoe

set_option maxHeartbeats 10000000
set_option maxRecDepth 65536

/-- The reference's frame. -/
theorem ref_frame : Cert.quiescent_ReferenceIdeal := by
  intro m g _
  hlo_run
  · exact fun _ => ⟨trivial, trivial⟩
  · exact sem_eq_zero_of_no_sems (sig := Cert.ReferenceIdeal.sig) (by decide) _

end Cert.Proof
end
-- ==== Proof.Scores.lean ====
/-
  A tile's scores, read one element at a time in the ideal model: score `i` of a residual row is both squared norms
  less twice the product of code `i` with the row.
-/
module

public import proofs.«01_k».proof.Proof.Level
public import Idealize.ShloMosaic.Lib.Pointwise

@[expose] public section
noncomputable section
namespace Cert.Proof
open Cert.KernelIdeal Cert.KernelIdeal.Gen
open Idealize.ShloMosaic

/-- Code `i`'s score for a residual row. -/
def score (A : Arrays Ideal) (row : Fin 8192) (i : ℕ) : EReal :=
  (A.D (ix2 0 row) + A.N (ix2 ⟨i % 8192, Nat.mod_lt _ (by decide)⟩ 0))
    - Ideal.ofBits .f32 0x40000000#32 * ∑ d : Fin 256, A.E (ix2 ⟨i % 8192, Nat.mod_lt _ (by decide)⟩ d) * A.R (ix2 row d)

/-- The scores of 64 codes at an index, from the blocks. -/
theorem scoreRows_apply (N : Vec Ideal S1x512 .f32) (R : Vec Ideal S512x256 .f32) (rows : Vec Ideal S64x256 .f32)
    (e2 : Vec Ideal S64x1 .f32) (y : Fin 64) (l : Fin 512) :
    scoreRows N (dotRows R rows) e2 (ix2 y l)
      = (N (ix2 0 l) + e2 (ix2 y 0)) - Ideal.ofBits .f32 0x40000000#32 * ∑ d : Fin 256, rows (ix2 y d) * R (ix2 l d) := by
  pointwise [scoreRows, dotRows, dot_S64x256_S512x256_S64x512_1_1_0_0_n_n]

/-- The row that lane `l` of block `b` stands for. -/
def rowOf (b : ℕ) (l : Fin 512) : Fin 8192 := ⟨(512 * b + l.val) % 8192, Nat.mod_lt _ (by decide)⟩

/-- Scores `64 n … 64 n + 63` of tile `k` over block `b`. -/
def tileScores (A : Arrays Ideal) (k b n : ℕ) : FVec Ideal S64x512 .f32 :=
  scoreRows (slot A.D b) (dotRows (blockR A.R b) (codeRows (tileE A.E k) n)) (normRows (tileN A.N k) n)

/-- They are the scores of the codes they stand for. -/
theorem tileScores_apply (A : Arrays Ideal) (k b n : ℕ) (hn : n < 64) (y : Fin 64) (l : Fin 512) :
    tileScores A k b n (ix2 y l) = score A (rowOf b l) (4096 * k + 64 * n + y.val) := by
  have e : (64 * n + y.val) % 4096 = 64 * n + y.val := by omega
  have f : (4096 * k + (64 * n + y.val) % 4096) % 8192 = (4096 * k + 64 * n + y.val) % 8192 := by rw [e, Nat.add_assoc]
  have hE : ∀ d, codeRows (tileE A.E k) n (ix2 y d) = A.E (ix2 ⟨(4096 * k + 64 * n + y.val) % 8192, Nat.mod_lt _ (by decide)⟩ d) :=
    fun d => congrArg (fun r => A.E (ix2 r d)) (Fin.ext f)
  have hN : normRows (tileN A.N k) n (ix2 y 0) = A.N (ix2 ⟨(4096 * k + 64 * n + y.val) % 8192, Nat.mod_lt _ (by decide)⟩ 0) :=
    congrArg (fun r => A.N (ix2 r 0)) (Fin.ext f)
  rw [tileScores, scoreRows_apply, hN, score]
  simp only [hE]
  rfl

end Cert.Proof
end
-- ==== Proof.ArgMin.lean ====
/-
  The first position of a least value, as a property, and how it is found piece by piece.
-/
module

public import Mathlib.Data.EReal.Basic

@[expose] public section
namespace Cert.Proof

/-- `m` is the least of the values `g i` over the positions in `S` and `a` the first position that attains it; where no
    value is below +∞, `m` is +∞ and `a` is 0. -/
def IsArg (S : ℕ → Prop) (g : ℕ → EReal) (m : EReal) (a : ℕ) : Prop :=
  (∀ i, S i → m ≤ g i) ∧ ((m = ⊤ ∧ a = 0) ∨ (m < ⊤ ∧ S a ∧ g a = m ∧ ∀ i, S i → g i = m → a ≤ i))

variable {S T : ℕ → Prop} {g : ℕ → EReal} {m m' : EReal} {a a' n : ℕ}

theorem IsArg.congr (h : IsArg S g m a) (hST : ∀ i, S i ↔ T i) : IsArg T g m a := by
  have e : S = T := funext fun i => propext (hST i)
  exact e ▸ h

theorem IsArg.congr_values {g' : ℕ → EReal} (h : IsArg S g m a) (hg : ∀ i, S i → g i = g' i) : IsArg S g' m a := by
  refine ⟨fun i hi => hg i hi ▸ h.1 i hi, ?_⟩
  rcases h.2 with h | ⟨h1, h2, h3, h4⟩
  · exact .inl h
  · exact .inr ⟨h1, h2, (hg a h2).symm.trans h3, fun i hi e => h4 i hi ((hg i hi).trans e)⟩

/-- Over no position. -/
theorem IsArg.none (h : ∀ i, ¬ S i) : IsArg S g ⊤ 0 := ⟨fun i hi => absurd hi (h i), .inl ⟨rfl, rfl⟩⟩

/-- One more position, after all the others. -/
theorem IsArg.snoc (h : IsArg S g m a) (hn : ∀ i, S i → i < n) :
    IsArg (fun i => S i ∨ i = n) g (min m (g n)) (if g n < m then n else a) := by
  obtain ⟨h1, h2⟩ := h
  by_cases hlt : g n < m
  · rw [if_pos hlt, min_eq_right hlt.le]
    refine ⟨?_, .inr ⟨lt_of_lt_of_le hlt le_top, .inr rfl, rfl, ?_⟩⟩
    · rintro i (hi | rfl)
      · exact hlt.le.trans (h1 i hi)
      · exact le_rfl
    · rintro i (hi | rfl) e
      · exact absurd (h1 i hi) (by rw [e]; exact not_le.mpr hlt)
      · exact le_rfl
  · rw [if_neg hlt, min_eq_left (not_lt.mp hlt)]
    refine ⟨?_, ?_⟩
    · rintro i (hi | rfl)
      · exact h1 i hi
      · exact not_lt.mp hlt
    · rcases h2 with h2 | ⟨h3, h4, h5, h6⟩
      · exact .inl h2
      · refine .inr ⟨h3, .inl h4, h5, ?_⟩
        rintro i (hi | rfl) e
        · exact h6 i hi e
        · exact (hn a h4).le

/-- Two ranges, one after the other. -/
theorem IsArg.append (h : IsArg S g m a) (h' : IsArg T g m' a') (hlt : ∀ i j, S i → T j → i < j) :
    IsArg (fun i => S i ∨ T i) g (if m' < m then m' else m) (if m' < m then a' else a) := by
  obtain ⟨h1, h2⟩ := h
  obtain ⟨h1', h2'⟩ := h'
  by_cases hm : m' < m
  · rw [if_pos hm, if_pos hm]
    refine ⟨?_, ?_⟩
    · rintro i (hi | hi)
      · exact hm.le.trans (h1 i hi)
      · exact h1' i hi
    · rcases h2' with ⟨e, -⟩ | ⟨h3, h4, h5, h6⟩
      · exact absurd le_top (by rw [← e]; exact not_le.mpr hm)
      · refine .inr ⟨h3, .inr h4, h5, ?_⟩
        rintro i (hi | hi) e
        · exact absurd (h1 i hi) (by rw [e]; exact not_le.mpr hm)
        · exact h6 i hi e
  · rw [if_neg hm, if_neg hm]
    refine ⟨?_, ?_⟩
    · rintro i (hi | hi)
      · exact h1 i hi
      · exact (not_lt.mp hm).trans (h1' i hi)
    · rcases h2 with h2 | ⟨h3, h4, h5, h6⟩
      · exact .inl h2
      · refine .inr ⟨h3, .inl h4, h5, ?_⟩
        rintro i (hi | hi) e
        · exact h6 i hi e
        · exact (hlt a i h4 hi).le

/-- Several sets at once: the least of their minima, and the least of the positions kept where that is attained. -/
theorem IsArg.union {ι : Type} {S : ι → ℕ → Prop} {m : ι → EReal} {a : ι → ℕ} (h : ∀ s, IsArg (S s) g (m s) (a s))
    {M : EReal} {A : ℕ} (hM : ∀ s, M ≤ m s) (hA : ∀ s, m s = M → A ≤ a s) (hs : ∃ s, m s = M ∧ a s = A) :
    IsArg (fun i => ∃ s, S s i) g M A := by
  refine ⟨?_, ?_⟩
  · rintro i ⟨s, hi⟩
    exact (hM s).trans ((h s).1 i hi)
  · obtain ⟨s, e1, e2⟩ := hs
    subst e1 e2
    rcases (h s).2 with h2 | ⟨h3, h4, h5, h6⟩
    · exact .inl h2
    · refine .inr ⟨h3, ⟨s, h4⟩, h5, ?_⟩
      rintro i ⟨s', hi⟩ e
      have hle : m s' ≤ m s := ((h s').1 i hi).trans e.le
      have heq : m s' = m s := le_antisymm hle (hM s')
      refine (hA s' heq).trans ?_
      rcases (h s').2 with ⟨e', -⟩ | ⟨-, -, -, h6'⟩
      · exact absurd h3 (by rw [← heq, e']; exact lt_irrefl _)
      · exact h6' i hi (e.trans heq.symm)

/-- The first position of the least value is one number. -/
theorem IsArg.unique (h : IsArg S g m a) (h' : IsArg S g m' a') : a = a' := by
  obtain ⟨h1, h2⟩ := h
  obtain ⟨h1', h2'⟩ := h'
  rcases h2 with ⟨e, e0⟩ | ⟨h3, h4, h5, h6⟩
  · rcases h2' with ⟨-, e0'⟩ | ⟨h3', h4', h5', -⟩
    · rw [e0, e0']
    · exact absurd (h1 a' h4') (by rw [h5', e]; exact not_le.mpr h3')
  · rcases h2' with ⟨e', -⟩ | ⟨h3', h4', h5', h6'⟩
    · exact absurd (h1' a h4) (by rw [h5, e']; exact not_le.mpr h3)
    · have e : m = m' := le_antisymm ((h1 a' h4').trans h5'.le) ((h1' a h4).trans h5.le)
      exact le_antisymm (h6 a' h4' (h5'.trans e.symm)) (h6' a h4 (h5.trans e))

end Cert.Proof
end
-- ==== Proof.Chunk.lean ====
/-
  The running minimum over a tile, in the ideal model: after `t` codes, each sublane and lane holds the least score of
  the codes seen so far that fall to the sublane, and the first code number that attains it.
-/
module

public import proofs.«01_k».proof.Proof.Scores
public import proofs.«01_k».proof.Proof.ArgMin

@[expose] public section
noncomputable section
namespace Cert.Proof
open Cert.KernelIdeal Cert.KernelIdeal.Gen
open Idealize.ShloMosaic

/-- The first `t` codes of tile `k` that fall to sublane `s`. -/
def Seen (k s t i : ℕ) : Prop := 4096 * k ≤ i ∧ i < 4096 * k + t ∧ i % 8 = s

/-- A running minimum that has seen the first `t` codes of tile `k`. -/
def Good (A : Arrays Ideal) (k b t : ℕ) (a : Acc Ideal) : Prop :=
  ∀ (s : Fin 8) (l : Fin 512), IsArg (Seen k s.val t) (score A (rowOf b l)) (a.1 (ix2 s l)) (a.2 (ix2 s l)).toNat

/-- The number of code `8 g + s` of a chunk. -/
theorem code_toNat {k n s : ℕ} (g : Fin 8) (hk : k < 2) (hn : n < 64) (hs : s < 8) :
    (BitVec.ofNat 32 s + ((BitVec.ofNat 32 k * 4096#32 + BitVec.ofNat 32 (64 * n)) + BitVec.ofNat 32 (8 * g.val))).toNat
      = 4096 * k + 64 * n + (8 * g.val + s) := by
  have := g.isLt
  simp only [BitVec.toNat_add, BitVec.toNat_mul, BitVec.toNat_ofNat]
  omega

/-- One group: eight more codes, one per sublane. -/
theorem Good.group {A : Arrays Ideal} {k b n : ℕ} {a : Acc Ideal} (g : Fin 8) (hk : k < 2) (hn : n < 64)
    (h : Good A k b (64 * n + 8 * g.val) a) :
    Good A k b (64 * n + 8 * g.val + 8)
      (group (Scalar.addi (Scalar.muli (BitVec.ofNat 32 k) 4096#32) (BitVec.ofNat 32 (64 * n))) (tileScores A k b n) g a) := by
  intro s l
  have hg := g.isLt
  have hs := s.isLt
  have hv : tileScores A k b n (ix2 ⟨8 * g.val + s.val, by omega⟩ l)
      = score A (rowOf b l) (4096 * k + 64 * n + (8 * g.val + s.val)) := tileScores_apply A k b n hn _ l
  have hx : extractStridedSlice S8x512 ![8 * g.val, 0] (tileScores A k b n) (slices8 g) (ix2 s l)
      = score A (rowOf b l) (4096 * k + 64 * n + (8 * g.val + s.val)) := by
    rw [← hv]
    refine congrArg (tileScores A k b n) (funext fun c => ?_)
    match c with
    | ⟨0, _⟩ => exact Fin.ext rfl
    | ⟨1, _⟩ => exact Fin.ext (Nat.zero_add _)
  have hs' := (h s l).snoc (n := 4096 * k + 64 * n + (8 * g.val + s.val)) (fun i hi => by
    obtain ⟨h1, h2, h3⟩ := hi; omega)
  refine IsArg.congr (S := fun i => Seen k s.val (64 * n + 8 * g.val) i ∨ i = 4096 * k + 64 * n + (8 * g.val + s.val)) ?_ ?_
  · have e1 : (Cert.Proof.group (Scalar.addi (Scalar.muli (BitVec.ofNat 32 k) 4096#32) (BitVec.ofNat 32 (64 * n)))
        (tileScores A k b n) g a).1 (ix2 s l)
        = min (a.1 (ix2 s l)) (score A (rowOf b l) (4096 * k + 64 * n + (8 * g.val + s.val))) := by
      rw [← hx]; rfl
    have e2 : ((Cert.Proof.group (Scalar.addi (Scalar.muli (BitVec.ofNat 32 k) 4096#32) (BitVec.ofNat 32 (64 * n)))
        (tileScores A k b n) g a).2 (ix2 s l)).toNat
        = if score A (rowOf b l) (4096 * k + 64 * n + (8 * g.val + s.val)) < a.1 (ix2 s l)
            then 4096 * k + 64 * n + (8 * g.val + s.val) else (a.2 (ix2 s l)).toNat := by
      have e3 : (Cert.Proof.group (Scalar.addi (Scalar.muli (BitVec.ofNat 32 k) 4096#32) (BitVec.ofNat 32 (64 * n)))
          (tileScores A k b n) g a).2 (ix2 s l)
          = if extractStridedSlice S8x512 ![8 * g.val, 0] (tileScores A k b n) (slices8 g) (ix2 s l) < a.1 (ix2 s l)
              then BitVec.ofNat 32 s.val + ((BitVec.ofNat 32 k * 4096#32 + BitVec.ofNat 32 (64 * n)) + BitVec.ofNat 32 (8 * g.val))
              else a.2 (ix2 s l) := by
        pointwise [Cert.Proof.group]
        rfl
      rw [e3, hx]
      by_cases hlt : score A (rowOf b l) (4096 * k + 64 * n + (8 * g.val + s.val)) < a.1 (ix2 s l)
      · rw [if_pos hlt, if_pos hlt, code_toNat g hk hn hs]
      · rw [if_neg hlt, if_neg hlt]
    rw [e1, e2]
    exact hs'
  · intro i
    unfold Seen
    omega

/-- One chunk: 64 more codes. -/
theorem Good.chunk {A : Arrays Ideal} {k b n : ℕ} {a : Acc Ideal} (hk : k < 2) (hn : n < 64) (h : Good A k b (64 * n) a) :
    Good A k b (64 * (n + 1))
      (chunk (Scalar.addi (Scalar.muli (BitVec.ofNat 32 k) 4096#32) (BitVec.ofNat 32 (64 * n))) (tileScores A k b n) a) :=
  ((((((((h.group 0 hk hn).group 1 hk hn).group 2 hk hn).group 3 hk hn).group 4 hk hn).group 5 hk hn).group 6 hk hn).group 7 hk hn)

/-- At the start no code has been seen. -/
theorem Good.zero (A : Arrays Ideal) (k b : ℕ) : Good A k b 0 (k1_pay39 (F := Ideal), broadcast S8x512 0#32) := by
  intro s l
  exact IsArg.none fun i hi => by obtain ⟨h1, h2, h3⟩ := hi; omega

/-- The running minimum after `n` chunks of a tile. -/
theorem Good.chunks (A : Arrays Ideal) (k b : ℕ) (hk : k < 2) : ∀ n, n ≤ 64 → Good A k b (64 * n)
    (chunks (Scalar.muli (BitVec.ofNat 32 k) 4096#32) (tileE A.E k) (blockR A.R b) (tileN A.N k) (slot A.D b) n)
  | 0, _ => Good.zero A k b
  | n + 1, h => (Good.chunks A k b hk n (by omega)).chunk hk (by omega)

/-- The running minimum of a whole tile. -/
theorem tileAcc_good (A : Arrays Ideal) (k b : ℕ) (hk : k < 2) : Good A k b 4096 (tileAcc A k b) :=
  Good.chunks A k b hk 64 le_rfl

end Cert.Proof
end
-- ==== Proof.Lanes.lean ====
/-
  The eight sublanes of a running minimum put together: a lane's minimum and the least code number that attains it.
-/
module

public import proofs.«01_k».proof.Proof.Chunk

@[expose] public section
noncomputable section
namespace Cert.Proof
open Cert.KernelIdeal Cert.KernelIdeal.Gen
open Idealize.ShloMosaic

/-- The least of finitely many values is below each of them, and one of them where the start is above all. -/
theorem fold_min_spec {ι α : Type*} [LinearOrder α] (f : ι → α) (b : α) (S : Finset ι) :
    S.fold min b f ≤ b ∧ (∀ s ∈ S, S.fold min b f ≤ f s) ∧ (S.fold min b f = b ∨ ∃ s ∈ S, S.fold min b f = f s) := by
  classical
  induction S using Finset.induction_on with
  | empty => simp
  | insert x S hx ih =>
    obtain ⟨h0, h1, h2⟩ := ih
    rw [Finset.fold_insert hx]
    refine ⟨(min_le_right _ _).trans h0, ?_, ?_⟩
    · intro s hs
      rcases Finset.mem_insert.mp hs with rfl | hs
      · exact min_le_left _ _
      · exact (min_le_right _ _).trans (h1 s hs)
    · rcases le_total (f x) (S.fold min b f) with h | h
      · exact .inr ⟨x, Finset.mem_insert_self _ _, min_eq_left h⟩
      · rw [min_eq_right h]
        rcases h2 with h2 | ⟨s, hs, e⟩
        · exact .inl h2
        · exact .inr ⟨s, Finset.mem_insert_of_mem hs, e⟩

/-- A lane's minimum. -/
theorem laneMin_apply (a : Acc Ideal) (l : Fin 512) :
    laneMin a (ix2 0 l) = (Finset.univ : Finset (Fin 8)).fold min (⊤ : EReal) (fun s => a.1 (ix2 s l)) := by
  have h : Ideal.ofBits .f32 0x7F800000#32 = ⊤ := by simp [Ideal.ofBits, Ideal.ieee]
  pointwise [laneMin]
  rw [h]

/-- A lane's code number. -/
theorem laneArg_apply (a : Acc Ideal) (l : Fin 512) :
    laneArg a (ix2 0 l) = (Finset.univ : Finset (Fin 8)).fold IntOp.minsi 2147483647#32
      (fun s => if (a.1 (ix2 s l) : EReal) = laneMin a (ix2 0 l) then a.2 (ix2 s l) else 8192#32) := by
  pointwise [laneArg]

theorem toInt_minsi (x y : BitVec 32) : (IntOp.minsi x y).toInt = min x.toInt y.toInt := by
  simp only [IntOp.minsi, BitVec.slt, decide_eq_true_eq]
  split_ifs with h <;> omega

theorem toInt_small {x : BitVec 32} (h : x.toNat < 8192) : x.toInt = x.toNat := by
  rw [BitVec.toInt_eq_toNat_of_lt (by omega)]

/-- The least position of each sublane put together: the lane's minimum and the least position of all. -/
theorem lanes_spec {S : Fin 8 → ℕ → Prop} {g : ℕ → EReal} (a : Acc Ideal) (l : Fin 512)
    (h : ∀ s, IsArg (S s) g (a.1 (ix2 s l)) (a.2 (ix2 s l)).toNat) (hS : ∀ s i, S s i → i < 8192) :
    IsArg (fun i => ∃ s, S s i) g (laneMin a (ix2 0 l)) (laneArg a (ix2 0 l)).toNat := by
  have hb : ∀ s, (a.2 (ix2 s l)).toNat < 8192 := fun s => by
    rcases (h s).2 with ⟨-, e⟩ | ⟨-, e, -⟩
    · rw [e]; decide
    · exact hS s _ e
  obtain ⟨-, hM, hM'⟩ := fold_min_spec (fun s : Fin 8 => (a.1 (ix2 s l) : EReal)) ⊤ Finset.univ
  rw [← laneMin_apply] at hM hM'
  have hM'' : ∃ s, (a.1 (ix2 s l) : EReal) = laneMin a (ix2 0 l) := by
    rcases hM' with e | ⟨s, -, e⟩
    · exact ⟨0, (le_top.trans_eq e.symm).antisymm (hM 0 (Finset.mem_univ _))⟩
    · exact ⟨s, e.symm⟩
  set f : Fin 8 → BitVec 32 :=
    fun s => if (a.1 (ix2 s l) : EReal) = laneMin a (ix2 0 l) then a.2 (ix2 s l) else 8192#32 with hf
  have hA : (laneArg a (ix2 0 l)).toInt
      = (Finset.univ : Finset (Fin 8)).fold min (2147483647#32).toInt (fun s => (f s).toInt) := by
    rw [laneArg_apply]
    exact (Finset.fold_hom (m := BitVec.toInt) toInt_minsi).symm
  obtain ⟨-, hL, hL'⟩ := fold_min_spec (fun s : Fin 8 => (f s).toInt) (2147483647#32).toInt Finset.univ
  rw [← hA] at hL hL'
  obtain ⟨s0, e0⟩ := hM''
  have f0 : f s0 = a.2 (ix2 s0 l) := if_pos e0
  have hlt : (laneArg a (ix2 0 l)).toInt < 8192 := by
    have := hL s0 (Finset.mem_univ _)
    rw [f0, toInt_small (hb s0)] at this
    have := hb s0
    omega
  have hat : ∃ s, (a.1 (ix2 s l) : EReal) = laneMin a (ix2 0 l) ∧ a.2 (ix2 s l) = laneArg a (ix2 0 l) := by
    rcases hL' with e | ⟨s, -, e⟩
    · exfalso
      rw [e] at hlt
      exact absurd hlt (by decide)
    · by_cases hs : (a.1 (ix2 s l) : EReal) = laneMin a (ix2 0 l)
      · have fs : f s = a.2 (ix2 s l) := if_pos hs
        exact ⟨s, hs, (BitVec.eq_of_toInt_eq (e.trans (by rw [fs]))).symm⟩
      · exfalso
        have fs : f s = 8192#32 := if_neg hs
        rw [e, fs] at hlt
        exact absurd hlt (by decide)
  obtain ⟨s1, e1, e2⟩ := hat
  refine IsArg.union h (fun s => hM s (Finset.mem_univ _)) (fun s hs => ?_) ⟨s1, e1, by rw [e2]⟩
  have fs : f s = a.2 (ix2 s l) := if_pos hs
  have h1 := hL s (Finset.mem_univ _)
  rw [fs, ← e2, toInt_small (hb s), toInt_small (hb s1)] at h1
  rw [← e2]
  exact Int.ofNat_le.mp h1

/-- A tile's minimum and code number. -/
theorem tile_spec (A : Arrays Ideal) (k b : ℕ) (hk : k < 2) (l : Fin 512) :
    IsArg (fun i => 4096 * k ≤ i ∧ i < 4096 * k + 4096) (score A (rowOf b l)) (laneMin (tileAcc A k b) (ix2 0 l))
      (laneArg (tileAcc A k b) (ix2 0 l)).toNat := by
  refine (lanes_spec (S := fun s => Seen k s.val 4096) (tileAcc A k b) l (fun s => tileAcc_good A k b hk s l)
    (fun s i hi => by obtain ⟨h1, h2, h3⟩ := hi; omega)).congr fun i => ?_
  constructor
  · rintro ⟨s, h1, h2, h3⟩
    exact ⟨h1, h2⟩
  · rintro ⟨h1, h2⟩
    exact ⟨⟨i % 8, Nat.mod_lt _ (by decide)⟩, h1, h2, rfl⟩

/-- A block's code numbers: the first code of least score, among all of them. -/
theorem blockCodes_spec (A : Arrays Ideal) (b : ℕ) (l : Fin 512) :
    ∃ m, IsArg (fun i => i < 8192) (score A (rowOf b l)) m (blockCodes A b (ix2 0 l)).toNat := by
  have h := (tile_spec A 0 b (by decide) l).append (tile_spec A 1 b (by decide) l) (fun i j hi hj => by omega)
  have e : blockCodes A b (ix2 0 l)
      = if (laneMin (tileAcc A 1 b) (ix2 0 l) : EReal) < laneMin (tileAcc A 0 b) (ix2 0 l)
          then laneArg (tileAcc A 1 b) (ix2 0 l) else laneArg (tileAcc A 0 b) (ix2 0 l) := by
    pointwise [blockCodes, keepArg, less]
  rw [e, apply_ite BitVec.toNat]
  exact ⟨_, h.congr fun i => by omega⟩

end Cert.Proof
end
-- ==== Proof.RefCodes.lean ====
/-
  One level of the reference, as functions of the table of codes and the residual, and its code numbers in the ideal
  model: the first code of least score.
-/
module

public import proofs.«01_k».proof.Proof.Lanes
public import proofs.«01_k».proof.Proof.Gen.ReferenceIdeal
public import Idealize.ShloMosaic.PureOps.Reduce

@[expose] public section
noncomputable section
namespace Cert.Proof
open Idealize.ShloMosaic
open Cert.ReferenceIdeal Cert.ReferenceIdeal.Facts₀

variable {F : FTy → Type} [FloatOps F]

/-- The sums of squares of a table's rows. -/
def squares (X : FVec F S8192x256 .f32) : FVec F S8192 .f32 :=
  Host.reduceAdd (mulf X X) (constant S_ .f32 0x00000000#32) reducesTo_S8192x256_S8192_d1 h_S_

/-- The sums of squares as a column. -/
def squaresCol (X : FVec F S8192x256 .f32) : FVec F S8192x1 .f32 := broadcastInDim S8192x1 ![0] bcast_S8192_S8192x1_0 (squares X)

/-- The sums of squares as a row. -/
def squaresRow (X : FVec F S8192x256 .f32) : FVec F S1x8192 .f32 := broadcastInDim S1x8192 ![1] bcast_S8192_S1x8192_1 (squares X)

/-- The scores of every code for every residual row. -/
def refScores (E R : FVec F S8192x256 .f32) : FVec F S8192x8192 .f32 :=
  subf (addf (broadcastInDim S8192x8192 ![0, 1] bcast_S8192x1_S8192x8192_0_1 (squaresCol R))
      (broadcastInDim S8192x8192 ![0, 1] bcast_S1x8192_S8192x8192_0_1 (squaresRow E)))
    (mulf (broadcastInDim S8192x8192 ![] bcast_S_S8192x8192 (constant S_ .f32 0x40000000#32))
      (Host.dotGeneral dot_S8192x256_S256x8192_S8192x8192_1_0_0_1_n_n none R
        (transpose S256x8192 [1, 0] E transposes_S8192x256_S256x8192_1_0)))

/-- The code number of every row of scores. -/
def argMins (X : FVec F S8192x8192 .f32) : IVec S8192 32 :=
  fun j => (Host.argReduce reducer_argmin_f32_i32 X (iotaInDim S8192x8192 32 1) (constant S_ .f32 0x7F800000#32)
    (constantI S_ 32 0#32) reducesTo_S8192x8192_S8192_d1 h_S_ j).2

/-- The reference's code numbers. -/
def refCodes (E R : FVec F S8192x256 .f32) : IVec S8192 32 := argMins (refScores E R)

/-- The arrays a launch reads at a level. -/
def levelArrays (E R : FVec F S8192x256 .f32) : Arrays F := ⟨E, R, squaresCol E, squaresRow R⟩

/-- The reference's scores are the kernel's. -/
theorem refScores_apply (E R : FVec Ideal S8192x256 .f32) (r i : Fin 8192) :
    refScores E R (ix2 r i) = score (levelArrays E R) r i.val := by
  have e : (⟨i.val % 8192, Nat.mod_lt _ (by decide)⟩ : Fin 8192) = i := Fin.ext (Nat.mod_eq_of_lt i.isLt)
  unfold score
  rw [e]
  pointwise! [refScores, levelArrays, squaresCol, squaresRow, squares, dot_S8192x256_S256x8192_S8192x8192_1_0_0_1_n_n]

/-- One step of the reference's running minimum, whatever the order the positions come in. -/
theorem IsArg.insert {S : ℕ → Prop} {g : ℕ → EReal} {m : EReal} {a n : ℕ} (h : IsArg S g m a) :
    IsArg (fun i => S i ∨ i = n) g (if m < g n then m else g n) (if m < g n ∨ (m = g n ∧ a < n) then a else n) := by
  obtain ⟨h1, h2⟩ := h
  rcases lt_trichotomy m (g n) with hlt | heq | hgt
  · rw [if_pos hlt, if_pos (.inl hlt)]
    refine ⟨?_, ?_⟩
    · rintro i (hi | rfl)
      · exact h1 i hi
      · exact hlt.le
    · rcases h2 with h2 | ⟨h3, h4, h5, h6⟩
      · exact .inl h2
      · refine .inr ⟨h3, .inl h4, h5, ?_⟩
        rintro i (hi | rfl) e
        · exact h6 i hi e
        · exact absurd hlt (by rw [e]; exact lt_irrefl _)
  · rw [if_neg (by rw [heq]; exact lt_irrefl _), ← heq]
    have hle : ∀ i, (S i ∨ i = n) → m ≤ g i := by
      rintro i (hi | rfl)
      · exact h1 i hi
      · exact heq.le
    refine ⟨hle, ?_⟩
    rcases h2 with ⟨e, e0⟩ | ⟨h3, h4, h5, h6⟩
    · refine .inl ⟨e, ?_⟩
      subst e0
      split_ifs with hc
      · rfl
      · have : ¬ 0 < n := fun h0 => hc (.inr ⟨rfl, h0⟩)
        omega
    · refine .inr ⟨h3, ?_⟩
      split_ifs with hc
      · have ha : a < n := hc.elim (fun h => absurd h (lt_irrefl _)) (fun h => h.2)
        refine ⟨.inl h4, h5, ?_⟩
        rintro i (hi | rfl) e
        · exact h6 i hi e
        · exact ha.le
      · have ha : ¬ a < n := fun h0 => hc (.inr ⟨rfl, h0⟩)
        refine ⟨.inr rfl, heq.symm, ?_⟩
        rintro i (hi | rfl) e
        · exact (not_lt.mp ha).trans (h6 i hi e)
        · exact le_rfl
  · have hn : ¬ m < g n := not_lt.mpr hgt.le
    rw [if_neg hn, if_neg (fun h => h.elim hn fun h => absurd h.1 hgt.ne')]
    refine ⟨?_, .inr ⟨lt_of_lt_of_le hgt le_top, .inr rfl, rfl, ?_⟩⟩
    · rintro i (hi | rfl)
      · exact hgt.le.trans (h1 i hi)
      · exact le_rfl
    · rintro i (hi | rfl) e
      · exact absurd (h1 i hi) (by rw [e]; exact not_le.mpr hgt)
      · exact le_rfl

/-- The reference's step on a pair, in the ideal model. -/
theorem reducer_apply (p q : Ideal .f32 × BitVec 32) :
    reducer_argmin_f32_i32 p q = (if (p.1 : EReal) < q.1 then p.1 else q.1,
      if (p.1 : EReal) < q.1 ∨ ((p.1 : EReal) = q.1 ∧ p.2.toInt < q.2.toInt) then p.2 else q.2) := by
  obtain ⟨x, i⟩ := p
  obtain ⟨y, j⟩ := q
  by_cases h1 : (x : EReal) < y <;> by_cases h2 : (x : EReal) = y <;> by_cases h3 : i.toInt < j.toInt <;>
    simp [reducer_argmin_f32_i32, Ideal.cmpf_def, Ideal.cmp, IntOp.ori, IntOp.andi, IntOp.cmpi, Scalar.select, BitVec.slt, h1, h2, h3]

/-- A fold of the reference's step over pairs of a score and its position. -/
theorem fold_reducer {g : ℕ → EReal} (L : List (Ideal .f32 × BitVec 32)) (hL : ∀ p ∈ L, (p.1 : EReal) = g p.2.toNat ∧ p.2.toNat < 8192) :
    ∀ (S : ℕ → Prop) (p : Ideal .f32 × BitVec 32), (∀ i, S i → i < 8192) → IsArg S g p.1 p.2.toNat →
      IsArg (fun i => S i ∨ ∃ q ∈ L, q.2.toNat = i) g (L.foldl reducer_argmin_f32_i32 p).1 (L.foldl reducer_argmin_f32_i32 p).2.toNat := by
  induction L with
  | nil => intro S p _ h; exact h.congr fun i => by simp
  | cons q L ih =>
    intro S p hS h
    obtain ⟨e, hq⟩ := hL q (.head _)
    have hp : p.2.toNat < 8192 := by
      rcases h.2 with ⟨-, e⟩ | ⟨-, e, -⟩
      · rw [e]; decide
      · exact hS _ e
    have step := h.insert (n := q.2.toNat)
    rw [← e] at step
    have hr : IsArg (fun i => S i ∨ i = q.2.toNat) g (reducer_argmin_f32_i32 p q).1 (reducer_argmin_f32_i32 p q).2.toNat := by
      rw [reducer_apply, toInt_small hp, toInt_small hq, apply_ite BitVec.toNat]
      simp only [Nat.cast_lt]
      exact step
    refine (ih (fun p hp => hL p (.tail _ hp)) (fun i => S i ∨ i = q.2.toNat) _ ?_ hr).congr fun i => ?_
    · rintro i (hi | rfl)
      · exact hS i hi
      · exact hq
    · simp only [List.mem_cons, or_assoc]
      constructor
      · rintro (h | rfl | ⟨x, hx, rfl⟩)
        · exact .inl h
        · exact .inr ⟨q, .inl rfl, rfl⟩
        · exact .inr ⟨x, .inr hx, rfl⟩
      · rintro (h | ⟨x, rfl | hx, rfl⟩)
        · exact .inl h
        · exact .inr (.inl rfl)
        · exact .inr (.inr ⟨x, hx, rfl⟩)

/-- The pairs a reduction along the second axis runs over: those of the result's row. -/
theorem mem_fiber_rows {n0 n1 : ℕ} {t : Shape} {α β : Type} (x : (⟨2, ![n0, n1]⟩ : Shape).Idx → α)
    (y : (⟨2, ![n0, n1]⟩ : Shape).Idx → β) (h : (⟨2, ![n0, n1]⟩ : Shape).ReducesTo [1] t) (j : t.Idx) (r : Fin n0)
    (hr : (j ⟨0, h.lt_r2_a1_0⟩).val = r.val) (p : α × β) :
    p ∈ Host.argReduceFiber x y h j ↔ ∃ k : Fin n1, p = (x (ix2 r k), y (ix2 r k)) := by
  have er : (⟨(j ⟨0, h.lt_r2_a1_0⟩).val, Shape.coordLt (j ⟨0, h.lt_r2_a1_0⟩) h.size_r2_a1_0⟩ : Fin n0) = r := Fin.ext hr
  simp only [Host.argReduceFiber, List.mem_map, List.mem_filter, List.mem_finRange, true_and, decide_eq_true_eq]
  constructor
  · rintro ⟨n, hn, rfl⟩
    obtain ⟨k, hk⟩ := (h.fiber_r2_a1 j _).mp hn
    rw [er] at hk
    exact ⟨k, by rw [hk]⟩
  · rintro ⟨k, rfl⟩
    refine ⟨(⟨2, ![n0, n1]⟩ : Shape).rowMajor (ix2 r k), ?_, ?_⟩
    · rw [Equiv.symm_apply_apply]
      exact (h.fiber_r2_a1 j _).mpr ⟨k, by rw [er]⟩
    · rw [Equiv.symm_apply_apply]

/-- The reference's fold over one row's pairs. -/
theorem fold_row {g : ℕ → EReal} (L : List (Ideal .f32 × BitVec 32)) (v : Fin 8192 → Ideal .f32)
    (hv : ∀ k, (v k : EReal) = g k.val) (mem : ∀ p, p ∈ L ↔ ∃ k : Fin 8192, p = (v k, BitVec.ofNat 32 k.val))
    (p : Ideal .f32 × BitVec 32) (hp : (p.1 : EReal) = ⊤) (hp' : p.2.toNat = 0) :
    ∃ m, IsArg (fun i => i < 8192) g m (L.foldl reducer_argmin_f32_i32 p).2.toNat := by
  have hk : ∀ k : Fin 8192, (BitVec.ofNat 32 k.val).toNat = k.val := fun k => by
    rw [BitVec.toNat_ofNat]; omega
  have h := fold_reducer (g := g) L (fun p hp => by
      obtain ⟨k, rfl⟩ := (mem p).mp hp
      simp only [hk]
      exact ⟨hv k, k.isLt⟩)
    (fun _ => False) p (fun i hi => hi.elim) (by
      rw [hp, hp']
      exact IsArg.none fun i hi => hi)
  refine ⟨_, h.congr fun i => ?_⟩
  constructor
  · rintro (h | ⟨q, hq, rfl⟩)
    · exact h.elim
    · obtain ⟨k, rfl⟩ := (mem q).mp hq
      simp only [hk]
      exact k.isLt
  · intro hi
    exact .inr ⟨_, (mem _).mpr ⟨⟨i, hi⟩, rfl⟩, hk ⟨i, hi⟩⟩

/-- The index a two-operand reduction keeps, as a fold over the pairs it runs over. -/
theorem argReduce_snd {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- The index kept for one row, where the positions along the row are its column numbers. -/
theorem argReduce_row {n0 : ℕ} {g : ℕ → EReal} {t u : Shape} (x : FVec Ideal ⟨2, ![n0, 8192]⟩ .f32) (y : IVec ⟨2, ![n0, 8192]⟩ 32)
    (ix : FVec Ideal u .f32) (iy : IVec u 32) (h : (⟨2, ![n0, 8192]⟩ : Shape).ReducesTo [1] t) (hu : 0 < u.numel) (j : t.Idx) (r : Fin n0)
    (hr : (j ⟨0, h.lt_r2_a1_0⟩).val = r.val)
    (hx : ∀ k : Fin 8192, (x (ix2 r k) : EReal) = g k.val) (hy : ∀ k : Fin 8192, y (ix2 r k) = BitVec.ofNat 32 k.val)
    (hix : (ix (Shape.Idx.first hu) : EReal) = ⊤) (hiy : (iy (Shape.Idx.first hu)).toNat = 0)
    (c : t.Idx → BitVec 32) (hc : c = fun j => (Host.argReduce reducer_argmin_f32_i32 x y ix iy h hu j).2) :
    ∃ m, IsArg (fun i => i < 8192) g m (c j).toNat := by
  have e : c j = _ := (congrFun hc j).trans (argReduce_snd reducer_argmin_f32_i32 x y ix iy h hu j)
  rw [e]
  have mem := mem_fiber_rows x y h j r hr
  generalize Host.argReduceFiber x y h j = L at mem ⊢
  exact fold_row L (fun k => x (ix2 r k)) hx (fun p => by rw [mem]; simp only [hy]) _ hix hiy

/-- The reference's code numbers are an index reduction. -/
theorem refCodes_eq (E R : FVec Ideal S8192x256 .f32) :
    refCodes E R = fun j => (Host.argReduce reducer_argmin_f32_i32 (refScores E R) (iotaInDim S8192x8192 32 1)
      (constant S_ .f32 0x7F800000#32) (constantI S_ 32 0#32) reducesTo_S8192x8192_S8192_d1 h_S_ j).2 := rfl

/-- The reference's code number of a row: the first code of least score. -/
theorem refCodes_spec (E R : FVec Ideal S8192x256 .f32) (r : Fin 8192) :
    ∃ m, IsArg (fun i => i < 8192) (score (levelArrays E R) r) m (refCodes E R (ix1 r)).toNat := by
  have htop : Ideal.ofBits .f32 0x7F800000#32 = ⊤ := by simp [Ideal.ofBits, Ideal.ieee]
  exact argReduce_row (refScores E R) (iotaInDim S8192x8192 32 1) (constant S_ .f32 0x7F800000#32) (constantI S_ 32 0#32)
    reducesTo_S8192x8192_S8192_d1 h_S_ (ix1 r) r rfl (fun k => refScores_apply E R r k) (fun _ => rfl) htop rfl
    (refCodes E R) (refCodes_eq E R)

end Cert.Proof
end
-- ==== Proof.LevelEq.lean ====
/-
  At one level the kernel and the reference pick the same codes.
-/
module

public import proofs.«01_k».proof.Proof.RefCodes

@[expose] public section
noncomputable section
namespace Cert.Proof
open Cert.KernelIdeal Cert.KernelIdeal.Facts₀
open Idealize.ShloMosaic

/-- A launch's output laid out as one code number per residual row. -/
def flat (c : Vec Ideal S16x1x512 .i32) : IVec S8192 32 := shapeCast S8192 c shapeCasts_S16x1x512_S8192

/-- The code number of a row, from the block that holds it. -/
theorem flat_codes_apply (A : Arrays Ideal) (r : Fin 8192) :
    flat (codes A) (ix1 r) = blockCodes A (r.val / 512) (ix2 0 ⟨r.val % 512, Nat.mod_lt _ (by decide)⟩) := by
  have h : flat (codes A) (ix1 r) = codes A (ix3 ⟨r.val / 512, by omega⟩ 0 ⟨r.val % 512, Nat.mod_lt _ (by decide)⟩) := by
    pointwise [flat]
  rw [h]
  unfold codes outBlock
  pointwise

/-- The kernel's code numbers are the reference's. -/
theorem flat_codes (E R : FVec Ideal S8192x256 .f32) : flat (codes (levelArrays E R)) = refCodes E R := by
  funext j
  obtain ⟨r, rfl⟩ : ∃ r : Fin 8192, j = ix1 r := ⟨j 0, by funext a; match a with | ⟨0, _⟩ => rfl⟩
  obtain ⟨m, h⟩ := blockCodes_spec (levelArrays E R) (r.val / 512) ⟨r.val % 512, Nat.mod_lt _ (by decide)⟩
  obtain ⟨m', h'⟩ := refCodes_spec E R r
  have e : rowOf (r.val / 512) ⟨r.val % 512, Nat.mod_lt _ (by decide)⟩ = r := by
    unfold rowOf
    ext
    show (512 * (r.val / 512) + r.val % 512) % 8192 = r.val
    omega
  rw [e] at h
  rw [flat_codes_apply]
  exact BitVec.eq_of_toNat_eq (h.unique h')

/-- A code number is below 8192. -/
theorem refCodes_lt (E R : FVec Ideal S8192x256 .f32) (j : S8192.Idx) : (refCodes E R j).toNat < 8192 := by
  obtain ⟨r, rfl⟩ : ∃ r : Fin 8192, j = ix1 r := ⟨j 0, by funext a; match a with | ⟨0, _⟩ => rfl⟩
  obtain ⟨m, h⟩ := refCodes_spec E R r
  rcases h.2 with ⟨-, e⟩ | ⟨-, e, -⟩
  · rw [e]; decide
  · exact e

end Cert.Proof
end
-- ==== Proof.Take.lean ====
/-
  The steps between the launches, as functions: a level's table, the rows taken by code numbers, and the next residual.
-/
module

public import proofs.«01_k».proof.Proof.LevelEq

@[expose] public section
noncomputable section
namespace Cert.Proof
open Idealize.ShloMosaic
open Cert.ReferenceIdeal Cert.ReferenceIdeal.Facts₀

variable {F : FTy → Type} [FloatOps F]

theorem slices4 (n : Fin 4) : S4x8192x256.Slices ![n.val, 0, 0] S1x8192x256 := by revert n; decide

/-- Level `n`'s table of codes. -/
def table (C : FVec F S4x8192x256 .f32) (n : Fin 4) : FVec F S8192x256 .f32 :=
  shapeCast S8192x256 (extractStridedSlice S1x8192x256 ![n.val, 0, 0] C (slices4 n)) shapeCasts_S1x8192x256_S8192x256

/-- Code numbers as row indices: a negative one counts from the end. -/
def rowIndex (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- Whether a row index is in range. -/
def inRange (i : IVec S8192 32) : IVec S8192 1 :=
  Host.reduce IntOp.andi
    (andi (cmpi .sge (rowIndex i) (broadcastInDim S8192x1 ![] bcast_S_S8192x1 (constantI S_ 32 0#32)))
      (cmpi .sle (rowIndex i) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The rows of a table that code numbers name. -/
def takeRows (E : FVec F S8192x256 .f32) (i : IVec S8192 32) : FVec F S8192x256 .f32 :=
  select (broadcastInDim S8192x256 ![0] bcast_S8192_S8192x256_0 (inRange i))
    (Host.gather gather_S8192x256_S8192x1_S8192x256_1_0_n_n_0_1_1256 E (rowIndex i))
    (broadcastInDim S8192x256 ![] bcast_S_S8192x256 (constant S_ .f32 0x7FC00000#32))

/-- The next residual: what the rows named by the codes leave. -/
def next (E R : FVec F S8192x256 .f32) : FVec F S8192x256 .f32 := subf R (takeRows E (refCodes E R))

/-- The residual before level `n`, from the input `X` and the tables `C`. -/
def residual (C : FVec F S4x8192x256 .f32) (X : FVec F S8192x256 .f32) : ℕ → FVec F S8192x256 .f32
  | 0 => X
  | n + 1 => next (table C (Fin.ofNat 4 n)) (residual C X n)

/-- The code numbers of level `n`. -/
def codesAt (C : FVec F S4x8192x256 .f32) (X : FVec F S8192x256 .f32) (n : ℕ) : IVec S8192 32 :=
  refCodes (table C (Fin.ofNat 4 n)) (residual C X n)

/-- Four columns of code numbers. -/
def columns (a b c d : IVec S8192 32) : IVec S8192x4 32 :=
  concatenate S8192x4 1 [⟨S8192x1, broadcastInDim S8192x1 ![0] bcast_S8192_S8192x1_0 a⟩, ⟨S8192x1, broadcastInDim S8192x1 ![0] bcast_S8192_S8192x1_0 b⟩,
    ⟨S8192x1, broadcastInDim S8192x1 ![0] bcast_S8192_S8192x1_0 c⟩, ⟨S8192x1, broadcastInDim S8192x1 ![0] bcast_S8192_S8192x1_0 d⟩]
    concatenates_S8192x1_S8192x1_S8192x1_S8192x1_S8192x4_d1

end Cert.Proof
end
-- ==== Proof.HostKernel.lean ====
/-
  What the host steps between the kernel's launches leave, each as a function of the contents before it.
-/
module

public import proofs.«01_k».proof.Proof.Take
public import proofs.«01_k».proof.Proof.Run
public import Idealize.ShloMosaic.Lib.StableHlo.Run

@[expose] public section
noncomputable section
namespace Cert.Proof
open Cert.KernelIdeal Cert.KernelIdeal.Gen
open Idealize.ShloMosaic Idealize.ShloMosaic.TcCoe

set_option maxHeartbeats 2000000
set_option maxRecDepth 16384

/-- Two launches' inputs agree when their four arrays do. -/
theorem arrays_ext {A B : Arrays Ideal} (hE : A.E = B.E) (hR : A.R = B.R) (hN : A.N = B.N) (hD : A.D = B.D) : A = B := by
  cases A; cases B; cases hE; cases hR; cases hN; cases hD; rfl

/-- Before the first launch. -/
theorem host0 (V : Valuation τ sig (Elt Ideal)) :
    Region0.arrays (StableHlo.after hostOps0 V)
      = levelArrays (F := Ideal) (table (F := Ideal) (V main_arg1) 0) (V main_arg0) := by
  refine arrays_ext ?_ ?_ ?_ ?_ <;> (unfold Region0.arrays levelArrays; dsimp only) <;> after_results_simp <;> rfl

/-- Between the first launch and the second. -/
theorem host1 (V : Valuation τ sig (Elt Ideal)) :
    Region1.arrays (StableHlo.after hostOps1_2 (StableHlo.after hostOps1_1 (StableHlo.after hostOps1 V)))
        = levelArrays (F := Ideal) (table (F := Ideal) (V main_arg1) 1)
            (subf (F := Ideal) (V main_arg0) (takeRows (F := Ideal) (V main_v1) (flat (V main_v8))))
      ∧ StableHlo.after hostOps1_2 (StableHlo.after hostOps1_1 (StableHlo.after hostOps1 V)) main_v9 = flat (V main_v8) := by
  refine ⟨arrays_ext ?_ ?_ ?_ ?_, ?_⟩ <;> (try unfold Region1.arrays levelArrays; dsimp only) <;> after_results_simp <;> rfl

/-- Between the second launch and the third. -/
theorem host2 (V : Valuation τ sig (Elt Ideal)) :
    Region2.arrays (StableHlo.after hostOps2_2 (StableHlo.after hostOps2_1 (StableHlo.after hostOps2 V)))
        = levelArrays (F := Ideal) (table (F := Ideal) (V main_arg1) 2)
            (subf (F := Ideal) (V main_v11) (takeRows (F := Ideal) (V main_v13) (flat (V main_v20))))
      ∧ StableHlo.after hostOps2_2 (StableHlo.after hostOps2_1 (StableHlo.after hostOps2 V)) main_v21 = flat (V main_v20) := by
  refine ⟨arrays_ext ?_ ?_ ?_ ?_, ?_⟩ <;> (try unfold Region2.arrays levelArrays; dsimp only) <;> after_results_simp <;> rfl

/-- Between the third launch and the fourth. -/
theorem host3 (V : Valuation τ sig (Elt Ideal)) :
    Region3.arrays (StableHlo.after hostOps3_2 (StableHlo.after hostOps3_1 (StableHlo.after hostOps3 V)))
        = levelArrays (F := Ideal) (table (F := Ideal) (V main_arg1) 3)
            (subf (F := Ideal) (V main_v23) (takeRows (F := Ideal) (V main_v25) (flat (V main_v32))))
      ∧ StableHlo.after hostOps3_2 (StableHlo.after hostOps3_1 (StableHlo.after hostOps3 V)) main_v33 = flat (V main_v32) := by
  refine ⟨arrays_ext ?_ ?_ ?_ ?_, ?_⟩ <;> (try unfold Region3.arrays levelArrays; dsimp only) <;> after_results_simp <;> rfl

/-- After the fourth launch. -/
theorem host4 (V : Valuation τ sig (Elt Ideal)) :
    StableHlo.after hostOps4_2 (StableHlo.after hostOps4_1 (StableHlo.after hostOps4 V)) main_v53
        = subf (F := Ideal) (V main_arg0) (subf (F := Ideal) (V main_v35) (takeRows (F := Ideal) (V main_v37) (flat (V main_v44))))
      ∧ StableHlo.after hostOps4_2 (StableHlo.after hostOps4_1 (StableHlo.after hostOps4 V)) main_v52
        = columns (V main_v9) (V main_v21) (V main_v33) (flat (V main_v44)) := by
  refine ⟨?_, ?_⟩ <;> after_results_simp <;> rfl

end Cert.Proof
end
-- ==== Proof.KernelResults.lean ====
/-
  What the kernel's program leaves in its two results, level by level.
-/
module

public import proofs.«01_k».proof.Proof.HostKernel

@[expose] public section
noncomputable section
namespace Cert.Proof
open Cert.KernelIdeal Cert.KernelIdeal.Gen
open Idealize.ShloMosaic Idealize.ShloMosaic.TcCoe

variable (m : (ℓ : Loc nD τ sig) → Buf (Elt Ideal) ℓ) (c : Dev nD)

/-- The input as launched. -/
abbrev input : FVec Ideal S8192x256 .f32 := m ((c : Thread nD τ).loc main_arg0)
/-- The tables as launched. -/
abbrev tables : FVec Ideal S4x8192x256 .f32 := m ((c : Thread nD τ).loc main_arg1)

/-- Contents at a level: both arguments as launched, and the level's table, residual and norms. -/
structure Ready (n : ℕ) (V : Valuation τ sig (Elt Ideal)) (A : Arrays Ideal) : Prop where
  arg0 : V main_arg0 = input m c
  arg1 : V main_arg1 = tables m c
  arrays : A = levelArrays (F := Ideal) (table (F := Ideal) (tables m c) (Fin.ofNat 4 n)) (residual (tables m c) (input m c) n)

variable {m c}

/-- The code numbers a level's launch leaves. -/
theorem Ready.flat {n : ℕ} {V : Valuation τ sig (Elt Ideal)} {A : Arrays Ideal} (h : Ready m c n V A) :
    flat (codes A) = codesAt (tables m c) (input m c) n := by
  rw [h.arrays]
  exact flat_codes _ _

theorem Ready.E {n : ℕ} {V : Valuation τ sig (Elt Ideal)} {A : Arrays Ideal} (h : Ready m c n V A) :
    A.E = table (F := Ideal) (tables m c) (Fin.ofNat 4 n) := by rw [h.arrays]; rfl

theorem Ready.R {n : ℕ} {V : Valuation τ sig (Elt Ideal)} {A : Arrays Ideal} (h : Ready m c n V A) :
    A.R = residual (tables m c) (input m c) n := by rw [h.arrays]; rfl

/-- The next level's residual, from this level's arrays. -/
theorem Ready.next {n : ℕ} {V : Valuation τ sig (Elt Ideal)} {A : Arrays Ideal} (h : Ready m c n V A) :
    subf (F := Ideal) A.R (takeRows (F := Ideal) A.E (Cert.Proof.flat (codes A))) = residual (tables m c) (input m c) (n + 1) := by
  rw [h.flat, h.E, h.R]
  rfl

variable (m c)

theorem ready0 : Ready m c 0 (V1 m c) (Region0.arrays (V1 m c)) where
  arg0 := V1_of m c _ (by decide)
  arg1 := V1_of m c _ (by decide)
  arrays := host0 _

/-- A buffer neither the first launch nor the steps after it write. -/
theorem keep1 (r : Ref sig .tc) (h : r ≠ main_v8) (h1 : r ∉ hostOps1_W) (h2 : r ∉ hostOps1_1_W) (h3 : r ∉ hostOps1_2_W) :
    V5 m (outs m) c r = V1 m c r :=
  (V5_of m _ c r h3).trans <| (V4_of m _ c r h2).trans <| (V3_of m _ c r h1).trans <|
    V2_of m _ c r (by simpa using h)

/-- What that launch leaves in its output. -/
theorem out0 : flat (V2 m (outs m) c main_v8) = codesAt (tables m c) (input m c) 0 := by
  rw [V2_eq, Region0.after_out]
  exact (ready0 m c).flat

theorem level_codes0 : V5 m (outs m) c main_v9 = codesAt (tables m c) (input m c) 0 := (host1 _).2.trans (out0 m c)

theorem ready1 : Ready m c 1 (V5 m (outs m) c) (Region1.arrays (V5 m (outs m) c)) where
  arg0 := (keep1 m c _ (by decide) (by decide) (by decide) (by decide)).trans (ready0 m c).arg0
  arg1 := (keep1 m c _ (by decide) (by decide) (by decide) (by decide)).trans (ready0 m c).arg1
  arrays := by
    refine (host1 _).1.trans ?_
    rw [V2_eq, Region0.after_out, Region0.after_ne _ _ (by decide), Region0.after_ne _ _ (by decide), Region0.after_ne _ _ (by decide),
      (ready0 m c).arg1]
    exact congrArg _ (ready0 m c).next

/-- A buffer neither the second launch nor the steps after it write. -/
theorem keep2 (r : Ref sig .tc) (h : r ≠ main_v20) (h1 : r ∉ hostOps2_W) (h2 : r ∉ hostOps2_1_W) (h3 : r ∉ hostOps2_2_W) :
    V9 m (outs m) c r = V5 m (outs m) c r :=
  (V9_of m _ c r h3).trans <| (V8_of m _ c r h2).trans <| (V7_of m _ c r h1).trans <|
    V6_of m _ c r (by simpa using h)

/-- What that launch leaves in its output. -/
theorem out1 : flat (V6 m (outs m) c main_v20) = codesAt (tables m c) (input m c) 1 := by
  rw [V6_eq, Region1.after_out]
  exact (ready1 m c).flat

theorem level_codes1 : V9 m (outs m) c main_v21 = codesAt (tables m c) (input m c) 1 := (host2 _).2.trans (out1 m c)

theorem ready2 : Ready m c 2 (V9 m (outs m) c) (Region2.arrays (V9 m (outs m) c)) where
  arg0 := (keep2 m c _ (by decide) (by decide) (by decide) (by decide)).trans (ready1 m c).arg0
  arg1 := (keep2 m c _ (by decide) (by decide) (by decide) (by decide)).trans (ready1 m c).arg1
  arrays := by
    refine (host2 _).1.trans ?_
    rw [V6_eq, Region1.after_out, Region1.after_ne _ _ (by decide), Region1.after_ne _ _ (by decide), Region1.after_ne _ _ (by decide),
      (ready1 m c).arg1]
    exact congrArg _ (ready1 m c).next

/-- A buffer neither the third launch nor the steps after it write. -/
theorem keep3 (r : Ref sig .tc) (h : r ≠ main_v32) (h1 : r ∉ hostOps3_W) (h2 : r ∉ hostOps3_1_W) (h3 : r ∉ hostOps3_2_W) :
    V13 m (outs m) c r = V9 m (outs m) c r :=
  (V13_of m _ c r h3).trans <| (V12_of m _ c r h2).trans <| (V11_of m _ c r h1).trans <|
    V10_of m _ c r (by simpa using h)

/-- What that launch leaves in its output. -/
theorem out2 : flat (V10 m (outs m) c main_v32) = codesAt (tables m c) (input m c) 2 := by
  rw [V10_eq, Region2.after_out]
  exact (ready2 m c).flat

theorem level_codes2 : V13 m (outs m) c main_v33 = codesAt (tables m c) (input m c) 2 := (host3 _).2.trans (out2 m c)

theorem ready3 : Ready m c 3 (V13 m (outs m) c) (Region3.arrays (V13 m (outs m) c)) where
  arg0 := (keep3 m c _ (by decide) (by decide) (by decide) (by decide)).trans (ready2 m c).arg0
  arg1 := (keep3 m c _ (by decide) (by decide) (by decide) (by decide)).trans (ready2 m c).arg1
  arrays := by
    refine (host3 _).1.trans ?_
    rw [V10_eq, Region2.after_out, Region2.after_ne _ _ (by decide), Region2.after_ne _ _ (by decide), Region2.after_ne _ _ (by decide),
      (ready2 m c).arg1]
    exact congrArg _ (ready2 m c).next

/-- A buffer neither the fourth launch nor the steps after it write. -/
theorem keep4 (r : Ref sig .tc) (h : r ≠ main_v44) (h1 : r ∉ hostOps4_W) (h2 : r ∉ hostOps4_1_W) (h3 : r ∉ hostOps4_2_W) :
    V17 m (outs m) c r = V13 m (outs m) c r :=
  (V17_of m _ c r h3).trans <| (V16_of m _ c r h2).trans <| (V15_of m _ c r h1).trans <|
    V14_of m _ c r (by simpa using h)

/-- What that launch leaves in its output. -/
theorem out3 : flat (V14 m (outs m) c main_v44) = codesAt (tables m c) (input m c) 3 := by
  rw [V14_eq, Region3.after_out]
  exact (ready3 m c).flat

/-- The kernel's code numbers: one column per level. -/
theorem kernel_codes : V17 m (outs m) c main_v52 = columns (codesAt (tables m c) (input m c) 0) (codesAt (tables m c) (input m c) 1)
    (codesAt (tables m c) (input m c) 2) (codesAt (tables m c) (input m c) 3) := by
  refine (host4 _).2.trans ?_
  have k3 : ∀ r : Ref sig .tc, r ∉ ([main_v44] : List (Ref sig .tc)) → V14 m (outs m) c r = V13 m (outs m) c r := V14_of m _ c
  rw [out3, k3 _ (by decide), k3 _ (by decide), k3 _ (by decide), level_codes2,
    keep3 m c _ (by decide) (by decide) (by decide) (by decide), keep3 m c _ (by decide) (by decide) (by decide) (by decide),
    level_codes1, keep2 m c _ (by decide) (by decide) (by decide) (by decide), level_codes0]

/-- The kernel's sum: the input less the last residual. -/
theorem kernel_sum : V17 m (outs m) c main_v53 = subf (F := Ideal) (input m c) (residual (tables m c) (input m c) 4) := by
  refine (host4 _).1.trans ?_
  rw [V14_eq, Region3.after_out, Region3.after_ne _ _ (by decide), Region3.after_ne _ _ (by decide), Region3.after_ne _ _ (by decide),
    (ready3 m c).arg0]
  exact congrArg _ (ready3 m c).next

end Cert.Proof
end
-- ==== Proof.RefLine.lean ====
/-
  The reference's program as a line of operations, one stretch per level.
-/
module

public import proofs.«01_k».proof.Proof.Take
public import Idealize.ShloMosaic.Lib.StableHlo.RunHlo

@[expose] public section
noncomputable section
namespace Cert.Proof
open Cert.ReferenceIdeal Cert.ReferenceIdeal.Facts₀
open Idealize.ShloMosaic Idealize.ShloMosaic.TcCoe
open Idealize.ShloMosaic.StableHlo (TRef IsSeq)

variable {F : FTy → Type} [FloatOps F]

set_option maxHeartbeats 10000000
set_option maxRecDepth 65536

/-- A level's buffers: what it reads (the tables, the sum so far, the residual), its values in order, and the next
    sum and residual. -/
structure LevelBufs where
  C : TRef sig ⟨S4x8192x256, .f32⟩
  acc : TRef sig ⟨S8192x256, .f32⟩
  R : TRef sig ⟨S8192x256, .f32⟩
  slice : TRef sig ⟨S1x8192x256, .f32⟩
  table : TRef sig ⟨S8192x256, .f32⟩
  rr : TRef sig ⟨S8192x256, .f32⟩
  zr : TRef sig ⟨S_, .f32⟩
  rs : TRef sig ⟨S8192, .f32⟩
  rcol : TRef sig ⟨S8192x1, .f32⟩
  ee : TRef sig ⟨S8192x256, .f32⟩
  ze : TRef sig ⟨S_, .f32⟩
  es : TRef sig ⟨S8192, .f32⟩
  erow : TRef sig ⟨S1x8192, .f32⟩
  rbig : TRef sig ⟨S8192x8192, .f32⟩
  ebig : TRef sig ⟨S8192x8192, .f32⟩
  norms : TRef sig ⟨S8192x8192, .f32⟩
  tr : TRef sig ⟨S256x8192, .f32⟩
  dot : TRef sig ⟨S8192x8192, .f32⟩
  two : TRef sig ⟨S_, .f32⟩
  twos : TRef sig ⟨S8192x8192, .f32⟩
  twice : TRef sig ⟨S8192x8192, .f32⟩
  scores : TRef sig ⟨S8192x8192, .f32⟩
  am : fn_argmin.Bufs
  code : TRef sig ⟨S8192, .i32⟩
  tk : fn_take.Bufs
  q : TRef sig ⟨S8192x256, .f32⟩
  acc1 : TRef sig ⟨S8192x256, .f32⟩
  R1 : TRef sig ⟨S8192x256, .f32⟩

/-- The operations of one argmin. -/
def argminOps (a : TRef sig ⟨S8192x8192, .f32⟩) (φ : fn_argmin.Bufs) : List (HloOp τ sig (Elt F)) :=
  [TRef.nullary φ.v0 (iotaInDim S8192x8192 32 1), TRef.nullary φ.cst (constant S_ .f32 0x7F800000#32), TRef.nullary φ.c (constantI S_ 32 0#32),
    TRef.quaternary a φ.v0 φ.cst φ.c φ.v1_0 (fun x y u v j => (Host.argReduce reducer_argmin_f32_i32 x y u v reducesTo_S8192x8192_S8192_d1 h_S_ j).1),
    TRef.quaternary a φ.v0 φ.cst φ.c φ.v1_1 (fun x y u v j => (Host.argReduce reducer_argmin_f32_i32 x y u v reducesTo_S8192x8192_S8192_d1 h_S_ j).2)]

/-- The operations of one taking of rows. -/
def takeOps (E : TRef sig ⟨S8192x256, .f32⟩) (i : TRef sig ⟨S8192, .i32⟩) (φ : fn_take.Bufs) : List (HloOp τ sig (Elt F)) :=
  [TRef.nullary φ.c (constantI S_ 32 0#32), TRef.unary φ.c φ.v0 (broadcastInDim S8192 ![] bcast_S_S8192), TRef.binary i φ.v0 φ.v1 (cmpi .slt),
    TRef.nullary φ.c_0 (constantI S_ 32 8192#32), TRef.unary φ.c_0 φ.v2 (broadcastInDim S8192 ![] bcast_S_S8192), TRef.binary i φ.v2 φ.v3 addi,
    TRef.ternary φ.v1 φ.v3 i φ.call0.v0 select, TRef.unary φ.call0.v0 φ.v5 (broadcastInDim S8192x1 ![0] bcast_S8192_S8192x1_0),
    TRef.nullary φ.c_1 (constantI S1 32 8191#32), TRef.nullary φ.c_2 (constantI S_ 32 0#32),
    TRef.unary φ.c_2 φ.v6 (broadcastInDim S8192x1 ![] bcast_S_S8192x1), TRef.binary φ.v5 φ.v6 φ.v7 (cmpi .sge),
    TRef.unary φ.c_1 φ.v8 (broadcastInDim S1x1 ![1] bcast_S1_S1x1_1), TRef.unary φ.v8 φ.v9 (broadcastInDim S8192x1 ![0, 1] bcast_S1x1_S8192x1_0_1),
    TRef.binary φ.v5 φ.v9 φ.v10 (cmpi .sle), TRef.binary φ.v7 φ.v10 φ.v11 andi, TRef.nullary φ.c_3 (constantI S_ 1 1#1),
    TRef.binary φ.v11 φ.c_3 φ.v12 (fun x v => Host.reduce IntOp.andi x v reducesTo_S8192x1_S8192_d1 h_S_),
    TRef.binary E φ.v5 φ.v13 (fun x j => Host.gather gather_S8192x256_S8192x1_S8192x256_1_0_n_n_0_1_1256 x j),
    TRef.unary φ.v12 φ.v14 (broadcastInDim S8192x256 ![0] bcast_S8192_S8192x256_0), TRef.nullary φ.cst (constant S_ .f32 0x7FC00000#32),
    TRef.unary φ.cst φ.v15 (broadcastInDim S8192x256 ![] bcast_S_S8192x256), TRef.ternary φ.v14 φ.v13 φ.v15 φ.v16 select]

/-- The operations of a level's scores. -/
def scoreOps (L : LevelBufs) (n : Fin 4) : List (HloOp τ sig (Elt F)) :=
  [TRef.unary L.C L.slice (extractStridedSlice S1x8192x256 ![n.val, 0, 0] · (slices4 n)),
    TRef.reshape L.slice L.table rfl shapeCasts_S1x8192x256_S8192x256, TRef.binary L.R L.R L.rr mulf, TRef.nullary L.zr (constant S_ .f32 0x00000000#32),
    TRef.binary L.rr L.zr L.rs (fun x v => Host.reduceAdd x v reducesTo_S8192x256_S8192_d1 h_S_),
    TRef.unary L.rs L.rcol (broadcastInDim S8192x1 ![0] bcast_S8192_S8192x1_0), TRef.binary L.table L.table L.ee mulf,
    TRef.nullary L.ze (constant S_ .f32 0x00000000#32),
    TRef.binary L.ee L.ze L.es (fun x v => Host.reduceAdd x v reducesTo_S8192x256_S8192_d1 h_S_),
    TRef.unary L.es L.erow (broadcastInDim S1x8192 ![1] bcast_S8192_S1x8192_1),
    TRef.unary L.rcol L.rbig (broadcastInDim S8192x8192 ![0, 1] bcast_S8192x1_S8192x8192_0_1),
    TRef.unary L.erow L.ebig (broadcastInDim S8192x8192 ![0, 1] bcast_S1x8192_S8192x8192_0_1), TRef.binary L.rbig L.ebig L.norms addf,
    TRef.unary L.table L.tr (transpose S256x8192 [1, 0] · transposes_S8192x256_S256x8192_1_0),
    TRef.binary L.R L.tr L.dot (fun l r => Host.dotGeneral dot_S8192x256_S256x8192_S8192x8192_1_0_0_1_n_n none l r),
    TRef.nullary L.two (constant S_ .f32 0x40000000#32), TRef.unary L.two L.twos (broadcastInDim S8192x8192 ![] bcast_S_S8192x8192),
    TRef.binary L.twos L.dot L.twice mulf, TRef.binary L.norms L.twice L.scores subf]

/-- The operations of a level. -/
def levelOps (L : LevelBufs) (n : Fin 4) : List (HloOp τ sig (Elt F)) :=
  scoreOps L n ++ (argminOps L.scores L.am ++ (takeOps L.table L.code L.tk ++
    [TRef.binary L.acc L.q L.acc1 addf, TRef.binary L.R L.q L.R1 subf]))

abbrev bufs0 : LevelBufs :=
  ⟨.of main_arg1, .of main_v0, .of main_arg0, .of main_v1, .of main_v2, .of main_v3, .of main_cst_0, .of main_v4, .of main_v5, .of main_v6, .of main_cst_1, .of main_v7, .of main_v8,
    .of main_v9, .of main_v10, .of main_v11, .of main_v12, .of main_v13, .of main_cst_2, .of main_v14, .of main_v15, .of main_v16,
    main_call0, .of main_v17, main_call1, .of main_v18, .of main_v19, .of main_v20⟩
abbrev bufs1 : LevelBufs :=
  ⟨.of main_arg1, .of main_v19, .of main_v20, .of main_v21, .of main_v22, .of main_v23, .of main_cst_3, .of main_v24, .of main_v25, .of main_v26, .of main_cst_4, .of main_v27, .of main_v28,
    .of main_v29, .of main_v30, .of main_v31, .of main_v32, .of main_v33, .of main_cst_5, .of main_v34, .of main_v35, .of main_v36,
    main_call2, .of main_v37, main_call3, .of main_v38, .of main_v39, .of main_v40⟩
abbrev bufs2 : LevelBufs :=
  ⟨.of main_arg1, .of main_v39, .of main_v40, .of main_v41, .of main_v42, .of main_v43, .of main_cst_6, .of main_v44, .of main_v45, .of main_v46, .of main_cst_7, .of main_v47, .of main_v48,
    .of main_v49, .of main_v50, .of main_v51, .of main_v52, .of main_v53, .of main_cst_8, .of main_v54, .of main_v55, .of main_v56,
    main_call4, .of main_v57, main_call5, .of main_v58, .of main_v59, .of main_v60⟩
abbrev bufs3 : LevelBufs :=
  ⟨.of main_arg1, .of main_v59, .of main_v60, .of main_v61, .of main_v62, .of main_v63, .of main_cst_9, .of main_v64, .of main_v65, .of main_v66, .of main_cst_10, .of main_v67, .of main_v68,
    .of main_v69, .of main_v70, .of main_v71, .of main_v72, .of main_v73, .of main_cst_11, .of main_v74, .of main_v75, .of main_v76,
    main_call6, .of main_v77, main_call7, .of main_v78, .of main_v79, .of main_v80⟩

/-- The sum's start. -/
def startOps : List (HloOp τ sig (Elt F)) :=
  [TRef.nullary (.of main_cst) (constant S_ .f32 0x00000000#32), TRef.unary (.of main_cst) (.of main_v0) (broadcastInDim S8192x256 ![] bcast_S_S8192x256)]

/-- The code numbers side by side. -/
def endOps : List (HloOp τ sig (Elt F)) :=
  [StableHlo.unary main_v17 main_v81 (broadcastInDim S8192x1 ![0] bcast_S8192_S8192x1_0),
   StableHlo.unary main_v37 main_v82 (broadcastInDim S8192x1 ![0] bcast_S8192_S8192x1_0),
   StableHlo.unary main_v57 main_v83 (broadcastInDim S8192x1 ![0] bcast_S8192_S8192x1_0),
   StableHlo.unary main_v77 main_v84 (broadcastInDim S8192x1 ![0] bcast_S8192_S8192x1_0),
   StableHlo.nary ![main_v81, main_v82, main_v83, main_v84] main_v85 (fun u => (concatenate S8192x4 1 [⟨S8192x1, (u 0 : (⟨S8192x1, .i32⟩ : BufTy).Contents (Elt F))⟩, ⟨S8192x1, (u 1 : (⟨S8192x1, .i32⟩ : BufTy).Contents (Elt F))⟩, ⟨S8192x1, (u 2 : (⟨S8192x1, .i32⟩ : BufTy).Contents (Elt F))⟩, ⟨S8192x1, (u 3 : (⟨S8192x1, .i32⟩ : BufTy).Contents (Elt F))⟩] concatenates_S8192x1_S8192x1_S8192x1_S8192x1_S8192x4_d1 : (⟨S8192x4, .i32⟩ : BufTy).Contents (Elt F)))]

/-- The whole line. -/
def refOps : List (HloOp τ sig (Elt F)) :=
  startOps ++ (levelOps bufs0 0 ++ (levelOps bufs1 1 ++ (levelOps bufs2 2 ++ (levelOps bufs3 3 ++ endOps))))

/-- The reference's program is that line. -/
theorem main_seq (d : Dev nD) : IsSeq (main (F := F) d) refOps := by
  unfold IsSeq
  rfl

end Cert.Proof
end
-- ==== Proof.RefHost.lean ====
/-
  What one level of the reference's line leaves, as a function of the contents before it.
-/
module

public import proofs.«01_k».proof.Proof.RefLine

@[expose] public section
noncomputable section
namespace Cert.Proof
open Cert.ReferenceIdeal Cert.ReferenceIdeal.Facts₀
open Idealize.ShloMosaic Idealize.ShloMosaic.TcCoe
open Idealize.ShloMosaic.StableHlo (TRef)

variable {F : FTy → Type} [FloatOps F]

set_option maxHeartbeats 10000000
set_option maxRecDepth 65536

/-- The value a buffer holds. -/
def val {T : BufTy} (x : TRef sig T) (V : Valuation τ sig (Elt F)) : T.Contents (Elt F) := x.ofBuf (V x.ref)

/-- The operations of a level's end. -/
def lastOps (L : LevelBufs) : List (HloOp τ sig (Elt F)) := [TRef.binary L.acc L.q L.acc1 addf, TRef.binary L.R L.q L.R1 subf]

/-- The buffers each stretch writes. -/
def scoreWrites (L : LevelBufs) : List (Ref sig .tc) :=
  [L.slice.ref, L.table.ref, L.rr.ref, L.zr.ref, L.rs.ref, L.rcol.ref, L.ee.ref, L.ze.ref, L.es.ref, L.erow.ref,
    L.rbig.ref, L.ebig.ref, L.norms.ref, L.tr.ref, L.dot.ref, L.two.ref, L.twos.ref, L.twice.ref, L.scores.ref]
def argminWrites (L : LevelBufs) : List (Ref sig .tc) := [L.am.v0.ref, L.am.cst.ref, L.am.c.ref, L.am.v1_0.ref, L.am.v1_1.ref]
def takeWrites (L : LevelBufs) : List (Ref sig .tc) :=
  [L.tk.c.ref, L.tk.v0.ref, L.tk.v1.ref, L.tk.c_0.ref, L.tk.v2.ref, L.tk.v3.ref, L.tk.call0.v0.ref, L.tk.v5.ref,
    L.tk.c_1.ref, L.tk.c_2.ref, L.tk.v6.ref, L.tk.v7.ref, L.tk.v8.ref, L.tk.v9.ref, L.tk.v10.ref, L.tk.v11.ref,
    L.tk.c_3.ref, L.tk.v12.ref, L.tk.v13.ref, L.tk.v14.ref, L.tk.cst.ref, L.tk.v15.ref, L.tk.v16.ref]
def lastWrites (L : LevelBufs) : List (Ref sig .tc) := [L.acc1.ref, L.R1.ref]

theorem keep_scores (L : LevelBufs) (n : Fin 4) (V : Valuation τ sig (Elt F)) {r : Ref sig .tc} (h : r ∉ scoreWrites L) :
    StableHlo.after (scoreOps L n) V r = V r :=
  StableHlo.after_of_writes_sub _ _ (StableHlo.forall_writes_sub_of_map (W := scoreWrites L) rfl) h
theorem keep_argmin (L : LevelBufs) (V : Valuation τ sig (Elt F)) {r : Ref sig .tc} (h : r ∉ argminWrites L) :
    StableHlo.after (argminOps L.scores L.am) V r = V r :=
  StableHlo.after_of_writes_sub _ _ (StableHlo.forall_writes_sub_of_map (W := argminWrites L) rfl) h
theorem keep_take (L : LevelBufs) (V : Valuation τ sig (Elt F)) {r : Ref sig .tc} (h : r ∉ takeWrites L) :
    StableHlo.after (takeOps L.table L.code L.tk) V r = V r :=
  StableHlo.after_of_writes_sub _ _ (StableHlo.forall_writes_sub_of_map (W := takeWrites L) rfl) h
theorem keep_last (L : LevelBufs) (V : Valuation τ sig (Elt F)) {r : Ref sig .tc} (h : r ∉ lastWrites L) :
    StableHlo.after (lastOps L) V r = V r :=
  StableHlo.after_of_writes_sub _ _ (StableHlo.forall_writes_sub_of_map (W := lastWrites L) rfl) h

/-- A level's line, stretch by stretch. -/
theorem level_after (L : LevelBufs) (n : Fin 4) (V : Valuation τ sig (Elt F)) :
    StableHlo.after (levelOps L n) V = StableHlo.after (lastOps L) (StableHlo.after (takeOps L.table L.code L.tk)
      (StableHlo.after (argminOps L.scores L.am) (StableHlo.after (scoreOps L n) V))) := rfl

/-- A level leaves every other buffer as it was. -/
theorem level_keep (L : LevelBufs) (n : Fin 4) (V : Valuation τ sig (Elt F)) {r : Ref sig .tc}
    (h : r ∉ scoreWrites L ∧ r ∉ argminWrites L ∧ r ∉ takeWrites L ∧ r ∉ lastWrites L) :
    StableHlo.after (levelOps L n) V r = V r := by
  rw [level_after, keep_last L _ h.2.2.2, keep_take L _ h.2.2.1, keep_argmin L _ h.2.1, keep_scores L n _ h.1]

variable (F) in
/-- What each stretch of a level computes, and that none overwrites what a later one reads. -/
structure Steps (L : LevelBufs) (n : Fin 4) : Prop where
  table : ∀ V : Valuation τ sig (Elt F), val L.table (StableHlo.after (scoreOps L n) V) = table (F := F) (val L.C V) n
  scores : ∀ V : Valuation τ sig (Elt F),
    val L.scores (StableHlo.after (scoreOps L n) V) = refScores (F := F) (Cert.Proof.table (F := F) (val L.C V) n) (val L.R V)
  code : ∀ V : Valuation τ sig (Elt F), val L.code (StableHlo.after (argminOps L.scores L.am) V) = argMins (F := F) (val L.scores V)
  rows : ∀ V : Valuation τ sig (Elt F),
    val L.q (StableHlo.after (takeOps L.table L.code L.tk) V) = takeRows (F := F) (val L.table V) (val L.code V)
  sum : ∀ V : Valuation τ sig (Elt F), val L.acc1 (StableHlo.after (lastOps L) V) = addf (F := F) (val L.acc V) (val L.q V)
  rest : ∀ V : Valuation τ sig (Elt F), val L.R1 (StableHlo.after (lastOps L) V) = subf (F := F) (val L.R V) (val L.q V)
  kept : L.table.ref ∉ argminWrites L ∧ L.code.ref ∉ takeWrites L ∧ L.code.ref ∉ lastWrites L
  kept_acc : L.acc.ref ∉ scoreWrites L ∧ L.acc.ref ∉ argminWrites L ∧ L.acc.ref ∉ takeWrites L
  kept_R : L.R.ref ∉ scoreWrites L ∧ L.R.ref ∉ argminWrites L ∧ L.R.ref ∉ takeWrites L

theorem val_congr {T : BufTy} (x : TRef sig T) {V W : Valuation τ sig (Elt F)} (h : V x.ref = W x.ref) : val x V = val x W :=
  congrArg x.ofBuf h

/-- A level: its code numbers, its sum and its residual. -/
theorem Steps.level {L : LevelBufs} {n : Fin 4} (h : Steps F L n) (V : Valuation τ sig (Elt F)) :
    val L.code (StableHlo.after (levelOps L n) V) = refCodes (F := F) (Cert.Proof.table (F := F) (val L.C V) n) (val L.R V)
      ∧ val L.acc1 (StableHlo.after (levelOps L n) V) = addf (F := F) (val L.acc V) (takeRows (F := F) (Cert.Proof.table (F := F) (val L.C V) n)
          (refCodes (F := F) (Cert.Proof.table (F := F) (val L.C V) n) (val L.R V)))
      ∧ val L.R1 (StableHlo.after (levelOps L n) V) = next (F := F) (Cert.Proof.table (F := F) (val L.C V) n) (val L.R V) := by
  have hc : val L.code (StableHlo.after (argminOps L.scores L.am) (StableHlo.after (scoreOps L n) V))
      = refCodes (F := F) (Cert.Proof.table (F := F) (val L.C V) n) (val L.R V) := by rw [h.code, h.scores]; rfl
  have hq : val L.q (StableHlo.after (takeOps L.table L.code L.tk)
      (StableHlo.after (argminOps L.scores L.am) (StableHlo.after (scoreOps L n) V)))
      = takeRows (F := F) (Cert.Proof.table (F := F) (val L.C V) n) (refCodes (F := F) (Cert.Proof.table (F := F) (val L.C V) n) (val L.R V)) := by
    rw [h.rows, hc, val_congr L.table (keep_argmin L _ h.kept.1), h.table]
  rw [level_after, h.sum, h.rest, hq, val_congr L.code ((keep_last L _ h.kept.2.2).trans (keep_take L _ h.kept.2.1)), hc,
    val_congr L.acc ((keep_take L _ h.kept_acc.2.2).trans ((keep_argmin L _ h.kept_acc.2.1).trans (keep_scores L n _ h.kept_acc.1))),
    val_congr L.R ((keep_take L _ h.kept_R.2.2).trans ((keep_argmin L _ h.kept_R.2.1).trans (keep_scores L n _ h.kept_R.1)))]
  exact ⟨rfl, rfl, rfl⟩

theorem steps0 : Steps F bufs0 0 := by
  constructor <;> first
    | decide
    | (intro V; unfold val scoreOps; dsimp only [bufs0]; after_results_simp <;> rfl)
    | (intro V; unfold val argminOps; dsimp only [bufs0]; after_results_simp <;> rfl)
    | (intro V; unfold val takeOps; dsimp only [bufs0]; after_results_simp <;> rfl)
    | (intro V; unfold val lastOps; dsimp only [bufs0]; after_results_simp <;> rfl)

theorem steps1 : Steps F bufs1 1 := by
  constructor <;> first
    | decide
    | (intro V; unfold val scoreOps; dsimp only [bufs1]; after_results_simp <;> rfl)
    | (intro V; unfold val argminOps; dsimp only [bufs1]; after_results_simp <;> rfl)
    | (intro V; unfold val takeOps; dsimp only [bufs1]; after_results_simp <;> rfl)
    | (intro V; unfold val lastOps; dsimp only [bufs1]; after_results_simp <;> rfl)

theorem steps2 : Steps F bufs2 2 := by
  constructor <;> first
    | decide
    | (intro V; unfold val scoreOps; dsimp only [bufs2]; after_results_simp <;> rfl)
    | (intro V; unfold val argminOps; dsimp only [bufs2]; after_results_simp <;> rfl)
    | (intro V; unfold val takeOps; dsimp only [bufs2]; after_results_simp <;> rfl)
    | (intro V; unfold val lastOps; dsimp only [bufs2]; after_results_simp <;> rfl)

theorem steps3 : Steps F bufs3 3 := by
  constructor <;> first
    | decide
    | (intro V; unfold val scoreOps; dsimp only [bufs3]; after_results_simp <;> rfl)
    | (intro V; unfold val argminOps; dsimp only [bufs3]; after_results_simp <;> rfl)
    | (intro V; unfold val takeOps; dsimp only [bufs3]; after_results_simp <;> rfl)
    | (intro V; unfold val lastOps; dsimp only [bufs3]; after_results_simp <;> rfl)

/-- Before the levels: the sum is zero, and nothing else changed. -/
theorem start_sum (V : Valuation τ sig (Elt F)) :
    StableHlo.after startOps V main_v0 = broadcastInDim S8192x256 ![] bcast_S_S8192x256 (constant (F := F) S_ .f32 0x00000000#32)
      ∧ StableHlo.after startOps V main_arg0 = V main_arg0 ∧ StableHlo.after startOps V main_arg1 = V main_arg1 := by
  unfold startOps
  refine ⟨?_, ?_, ?_⟩ <;> after_results_simp <;> rfl

/-- After the levels: the code numbers side by side, and the rest unchanged. -/
theorem end_codes (V : Valuation τ sig (Elt F)) :
    StableHlo.after endOps V main_v85 = columns (V main_v17) (V main_v37) (V main_v57) (V main_v77)
      ∧ StableHlo.after endOps V main_v79 = V main_v79
      ∧ StableHlo.after endOps V main_arg0 = V main_arg0 ∧ StableHlo.after endOps V main_arg1 = V main_arg1 := by
  unfold endOps
  refine ⟨?_, ?_, ?_, ?_⟩ <;> after_results_simp <;> rfl

end Cert.Proof
end
-- ==== Proof.RefResults.lean ====
/-
  What the reference's program leaves in its two results.
-/
module

public import proofs.«01_k».proof.Proof.RefHost
public import Idealize.ShloMosaic.Lib.Pipeline.Frame

@[expose] public section
noncomputable section
namespace Cert.Proof
open Cert.ReferenceIdeal Cert.ReferenceIdeal.Facts₀
open Idealize.ShloMosaic Idealize.ShloMosaic.TcCoe Idealize.SL.Sem

variable {F : FTy → Type} [FloatOps F]

set_option maxHeartbeats 10000000
set_option maxRecDepth 65536

/-- The sum before level `n`. -/
def sumAt (C : FVec F S4x8192x256 .f32) (X : FVec F S8192x256 .f32) : ℕ → FVec F S8192x256 .f32
  | 0 => broadcastInDim S8192x256 ![] bcast_S_S8192x256 (constant S_ .f32 0x00000000#32)
  | n + 1 => addf (sumAt C X n) (takeRows (table C (Fin.ofNat 4 n)) (codesAt C X n))

/-- Contents before level `k`: the arguments as launched, the sum and the residual. -/
structure Before (C : FVec F S4x8192x256 .f32) (X : FVec F S8192x256 .f32) (k : ℕ) (L : LevelBufs) (V : Valuation τ sig (Elt F)) : Prop where
  arg0 : V main_arg0 = X
  arg1 : V main_arg1 = C
  read : L.C = .of main_arg1
  sum : val L.acc V = sumAt C X k
  res : val L.R V = residual C X k

/-- One level. -/
theorem Before.level {C : FVec F S4x8192x256 .f32} {X : FVec F S8192x256 .f32} {k : ℕ} {L : LevelBufs} {V : Valuation τ sig (Elt F)}
    (b : Before C X k L V) (s : Steps F L (Fin.ofNat 4 k)) :
    val L.code (StableHlo.after (levelOps L (Fin.ofNat 4 k)) V) = codesAt C X k
      ∧ val L.acc1 (StableHlo.after (levelOps L (Fin.ofNat 4 k)) V) = sumAt C X (k + 1)
      ∧ val L.R1 (StableHlo.after (levelOps L (Fin.ofNat 4 k)) V) = residual C X (k + 1) := by
  obtain ⟨h1, h2, h3⟩ := s.level V
  have hC : val L.C V = C := (congrArg (val · V) b.read).trans b.arg1
  rw [hC, b.res] at h1 h2 h3
  rw [b.sum] at h2
  exact ⟨h1, h2, h3⟩

variable (V : Valuation τ sig (Elt F))

/-- The contents before each level, and after the last. -/
abbrev W0 : Valuation τ sig (Elt F) := StableHlo.after startOps V
abbrev W1 : Valuation τ sig (Elt F) := StableHlo.after (levelOps bufs0 0) (W0 V)
abbrev W2 : Valuation τ sig (Elt F) := StableHlo.after (levelOps bufs1 1) (W1 V)
abbrev W3 : Valuation τ sig (Elt F) := StableHlo.after (levelOps bufs2 2) (W2 V)
abbrev W4 : Valuation τ sig (Elt F) := StableHlo.after (levelOps bufs3 3) (W3 V)

theorem before0 : Before (V main_arg1) (V main_arg0) 0 bufs0 (W0 V) :=
  ⟨(start_sum V).2.1, (start_sum V).2.2, rfl, (start_sum V).1, (start_sum V).2.1⟩
theorem before1 : Before (V main_arg1) (V main_arg0) 1 bufs1 (W1 V) :=
  ⟨(level_keep _ _ _ (by decide)).trans (before0 V).arg0, (level_keep _ _ _ (by decide)).trans (before0 V).arg1,
    rfl, ((before0 V).level steps0).2.1, ((before0 V).level steps0).2.2⟩
theorem before2 : Before (V main_arg1) (V main_arg0) 2 bufs2 (W2 V) :=
  ⟨(level_keep _ _ _ (by decide)).trans (before1 V).arg0, (level_keep _ _ _ (by decide)).trans (before1 V).arg1,
    rfl, ((before1 V).level steps1).2.1, ((before1 V).level steps1).2.2⟩
theorem before3 : Before (V main_arg1) (V main_arg0) 3 bufs3 (W3 V) :=
  ⟨(level_keep _ _ _ (by decide)).trans (before2 V).arg0, (level_keep _ _ _ (by decide)).trans (before2 V).arg1,
    rfl, ((before2 V).level steps2).2.1, ((before2 V).level steps2).2.2⟩

theorem codes0_end : W4 V main_v17 = codesAt (F := F) (V main_arg1) (V main_arg0) 0 :=
  (level_keep _ _ _ (by decide)).trans <| (level_keep _ _ _ (by decide)).trans <| (level_keep _ _ _ (by decide)).trans ((before0 V).level steps0).1
theorem codes1_end : W4 V main_v37 = codesAt (F := F) (V main_arg1) (V main_arg0) 1 :=
  (level_keep _ _ _ (by decide)).trans <| (level_keep _ _ _ (by decide)).trans ((before1 V).level steps1).1
theorem codes2_end : W4 V main_v57 = codesAt (F := F) (V main_arg1) (V main_arg0) 2 :=
  (level_keep _ _ _ (by decide)).trans ((before2 V).level steps2).1
theorem codes3_end : W4 V main_v77 = codesAt (F := F) (V main_arg1) (V main_arg0) 3 := ((before3 V).level steps3).1

theorem ref_after : StableHlo.after refOps V = StableHlo.after endOps (W4 V) := rfl

/-- The reference's code numbers: one column per level. -/
theorem ref_codes : StableHlo.after refOps V main_v85 = columns (codesAt (F := F) (V main_arg1) (V main_arg0) 0)
    (codesAt (F := F) (V main_arg1) (V main_arg0) 1) (codesAt (F := F) (V main_arg1) (V main_arg0) 2) (codesAt (F := F) (V main_arg1) (V main_arg0) 3) := by
  rw [ref_after, (end_codes _).1, codes0_end, codes1_end, codes2_end, codes3_end]

/-- The reference's sum. -/
theorem ref_sum : StableHlo.after refOps V main_v79 = sumAt (F := F) (V main_arg1) (V main_arg0) 4 := by
  rw [ref_after, (end_codes _).2.1]
  exact ((before3 V).level steps3).2.1

/-- The reference leaves its arguments as they were. -/
theorem ref_args : StableHlo.after refOps V main_arg0 = V main_arg0 ∧ StableHlo.after refOps V main_arg1 = V main_arg1 := by
  rw [ref_after, (end_codes _).2.2.1, (end_codes _).2.2.2]
  exact ⟨(level_keep _ _ _ (by decide)).trans (before3 V).arg0, (level_keep _ _ _ (by decide)).trans (before3 V).arg1⟩

theorem ops_bufs : (refOps : List (HloOp τ sig (Elt F))).Forall fun op => op.bufs ⊆ StableHlo.tcRefs τ sig := by
  unfold refOps startOps levelOps scoreOps argminOps takeOps endOps
  simp

theorem ops_fresh : ∀ op ∈ (refOps : List (HloOp τ sig (Elt F))), op.fresh = ∅ := by
  intro _ h
  (repeat (cases h with | head => rfl | tail _ h => ?_))
  exact nomatch h

/-- Every run of the reference ends with its results and its arguments so. -/
theorem ref_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after refOps (StableHlo.launchContents m d) (Proc.devRef .tc b) :=
  StableHlo.run_hlo defs main main_seq (by decide) (by decide) ops_bufs ops_fresh m ρ

end Cert.Proof
end
-- ==== Proof.Finite.lean ====
/-
  Finite inputs stay finite through the levels, and the input less the last residual is the sum of the rows taken.
-/
module

public import proofs.«01_k».proof.Proof.RefResults
public import proofs.«01_k».proof.Pre_finite
public import Idealize.ShloMosaic.Lib.ReduceAll

@[expose] public section
noncomputable section
namespace Cert.Proof
open Cert.ReferenceIdeal Cert.ReferenceIdeal.Facts₀
open Idealize.ShloMosaic

/-- Every element of an array is a real number. -/
def Real {s : Shape} (X : FVec Ideal s .f32) : Prop := ∀ i, ∃ r : ℝ, X i = (r : EReal)

theorem Real.table {C : FVec Ideal S4x8192x256 .f32} (h : Real C) (n : Fin 4) : Real (table C n) := fun _ => h _

/-- Code numbers below 8192 are in range. -/
theorem inRange_eq {i : IVec S8192 32} (hi : ∀ j, (i j).toNat < 8192) : inRange i = fun _ => 1#1 := by
  funext j
  refine Host.reduce_andi_one _ _ _ _ _ rfl fun k => ?_
  obtain ⟨a, b, rfl⟩ : ∃ (a : Fin 8192) (b : Fin 1), k = ix2 a b := ⟨k 0, k 1, by funext a; match a with | ⟨0, _⟩ => rfl | ⟨1, _⟩ => rfl⟩
  have := hi (ix1 a)
  have h0 : (i (ix1 a)).toInt = (i (ix1 a)).toNat := toInt_small this
  pointwise [rowIndex]
  have hn : IntOp.cmpi .slt (i (ix1 a)) 0#32 = 0#1 := by
    have : ¬ (((i (ix1 a)).toNat : ℤ) < 0) := by omega
    simp [IntOp.cmpi, BitVec.slt, h0, this]
  have hg : IntOp.cmpi .sge (i (ix1 a)) 0#32 = 1#1 := by simp [IntOp.cmpi, BitVec.sle, h0]
  have hl : IntOp.cmpi .sle (i (ix1 a)) 8191#32 = 1#1 := by
    have : (8191#32).toInt = 8191 := by decide
    have hle : ((i (ix1 a)).toNat : ℤ) ≤ 8191 := by omega
    simp [IntOp.cmpi, BitVec.sle, h0, this, hle]
  simp [Scalar.select, hn, hg, hl, IntOp.andi]

/-- The rows named by code numbers in range are real where the table is. -/
theorem Real.takeRows {E : FVec Ideal S8192x256 .f32} (h : Real E) {i : IVec S8192 32} (hi : ∀ j, (i j).toNat < 8192) :
    Real (takeRows E i) := by
  intro j
  have e : Cert.Proof.takeRows E i j = Host.gather gather_S8192x256_S8192x1_S8192x256_1_0_n_n_0_1_1256 E (rowIndex i) j := by
    unfold Cert.Proof.takeRows
    rw [inRange_eq hi]
    rfl
  rw [e]
  exact h _

theorem codesAt_lt (C : FVec Ideal S4x8192x256 .f32) (X : FVec Ideal S8192x256 .f32) (n : ℕ) (j : S8192.Idx) :
    (codesAt C X n j).toNat < 8192 := refCodes_lt _ _ j

theorem residual_succ (C : FVec Ideal S4x8192x256 .f32) (X : FVec Ideal S8192x256 .f32) (n : ℕ) : residual C X (n + 1)
    = subf (residual C X n) (Cert.Proof.takeRows (Cert.Proof.table C (Fin.ofNat 4 n)) (codesAt C X n)) := rfl
theorem sumAt_succ (C : FVec Ideal S4x8192x256 .f32) (X : FVec Ideal S8192x256 .f32) (n : ℕ) : sumAt C X (n + 1)
    = addf (sumAt C X n) (Cert.Proof.takeRows (Cert.Proof.table C (Fin.ofNat 4 n)) (codesAt C X n)) := rfl
theorem subf_at {s : Shape} (A B : FVec Ideal s .f32) (j : s.Idx) : subf A B j = (A j - B j : EReal) := rfl
theorem addf_at {s : Shape} (A B : FVec Ideal s .f32) (j : s.Idx) : addf A B j = (A j + B j : EReal) := rfl

/-- At every level the sum so far is the input less the residual. -/
theorem sum_eq {C : FVec Ideal S4x8192x256 .f32} {X : FVec Ideal S8192x256 .f32} (hC : Real C) (hX : Real X) (n : ℕ) (j : S8192x256.Idx) :
    ∃ x r : ℝ, X j = (x : EReal) ∧ residual C X n j = (r : EReal) ∧ sumAt C X n j = ((x - r : ℝ) : EReal) := by
  obtain ⟨x, hx⟩ := hX j
  refine ⟨x, ?_⟩
  induction n with
  | zero =>
    refine ⟨x, hx, hx, ?_⟩
    rw [sub_self]
    show Ideal.ofBits .f32 0x00000000#32 = _
    simp [Ideal.ofBits, Ideal.ieee]
  | succ n ih =>
    obtain ⟨r, -, hr, hs⟩ := ih
    obtain ⟨q, hq⟩ := (hC.table (Fin.ofNat 4 n)).takeRows (codesAt_lt C X n) j
    refine ⟨r - q, hx, ?_, ?_⟩
    · rw [residual_succ, subf_at, hr, hq, EReal.coe_sub]
    · rw [sumAt_succ, addf_at, hs, hq, ← EReal.coe_add]
      have e : x - r + q = x - (r - q) := by ring
      rw [e]

/-- The input less the last residual is the sum. -/
theorem sub_residual {C : FVec Ideal S4x8192x256 .f32} {X : FVec Ideal S8192x256 .f32} (hC : Real C) (hX : Real X) (n : ℕ) :
    subf X (residual C X n) = sumAt C X n := by
  funext j
  obtain ⟨x, r, hx, hr, hs⟩ := sum_eq hC hX n j
  rw [subf_at, hx, hr, hs, EReal.coe_sub]

/-- The side conditions of the precondition. -/
instance finite_facts : Cert.Pre_finite.Facts := ⟨by decide, by decide⟩

/-- What the precondition says of an array: every element is real. -/
theorem real_of_lt {s : Shape} {X : FVec Ideal s .f32} (h : S_.BroadcastsInDim s (![] : Fin 0 → Fin s.rank))
    (e : cmpf .olt (Host.absf X) (broadcastInDim s ![] h (constant S_ .f32 0x7F800000#32)) = fun _ => 1#1) : Real X := by
  intro i
  have htop : Ideal.ofBits .f32 0x7F800000#32 = ⊤ := by simp [Ideal.ofBits, Ideal.ieee]
  have hlt : Ideal.cmp .olt (max (X i) (-(X i)) : EReal) (Ideal.ofBits .f32 0x7F800000#32) = 1#1 := congrFun e i
  have h1 : (max (X i) (-(X i)) : EReal) < ⊤ := by
    rw [htop] at hlt
    unfold Ideal.cmp at hlt
    by_contra hn
    simp [hn] at hlt
  obtain ⟨h2, h3⟩ := max_lt_iff.mp h1
  refine ⟨(X i : EReal).toReal, (EReal.coe_toReal h2.ne ?_).symm⟩
  intro hb
  rw [hb] at h3
  exact absurd h3 (by simp)

end Cert.Proof
end
-- ==== Proof.Equal.lean ====
/-
  The equation: the kernel and the reference end with the same sum and the same code numbers.
-/
module

public import proofs.«01_k».proof.Defs
public import proofs.«01_k».proof.Proof.KernelResults
public import proofs.«01_k».proof.Proof.Finite

@[expose] public section
noncomputable section
namespace Cert.Proof
open Idealize.ShloMosaic Idealize.ShloMosaic.TcCoe Idealize.SL.Sem
open Cert.KernelIdeal (nD τ sig)

/-- A finite input is real in every element of both arguments. -/
theorem real_args {m : (ℓ : Loc nD τ sig) → Buf (Elt Ideal) ℓ} (h : Cert.Pre_KernelIdeal_finite m) (c : Dev nD) :
    Real (input m c) ∧ Real (tables m c) :=
  ⟨real_of_lt _ (h c).1, real_of_lt _ (h c).2⟩

/-- A buffer of the kernel's host program at the end of a run. -/
theorem kernel_end {m : (ℓ : Loc nD τ sig) → Buf (Elt Ideal) ℓ} {s : MemSt nD τ sig (Elt Ideal)} {c : Dev nD}
    (h : ∀ b ∈ Pipeline.ucRefs τ sig, s.mem ((c.tc : Thread nD τ).1, b) = Cert.KernelIdeal.Gen.V17 m (outs m) c b)
    (r : Ref sig .tc) (hr : (Proc.devRef (τ := τ) .tc r).isScoped = false) :
    s.mem ((c.tc : Thread nD τ).loc r) = Cert.KernelIdeal.Gen.V17 m (outs m) c r :=
  at_end m h r (Finset.mem_filter.mpr ⟨StableHlo.devRef_mem_tcRefs r, by simpa using hr⟩)

/-- From arguments that agree and are finite, the kernel and the reference end with equal results. -/
theorem equal : Cert.algebraic_KernelIdeal_ReferenceIdeal_pre_finite := by
  intro m g m' g' hpre hagree
  refine ⟨fun c => sumAt (F := Ideal) (tables m c) (input m c) 4,
    fun c => columns (codesAt (F := Ideal) (tables m c) (input m c) 0) (codesAt (F := Ideal) (tables m c) (input m c) 1)
      (codesAt (F := Ideal) (tables m c) (input m c) 2) (codesAt (F := Ideal) (tables m c) (input m c) 3), ?_, ?_⟩
  · refine θ_run_mono (run_all m g) fun r h c => ⟨?_, ?_, ?_, ?_⟩
    · exact (kernel_end (h.1 c) _ (by decide)).trans ((kernel_sum m c).trans (sub_residual (real_args hpre c).2 (real_args hpre c).1 4))
    · exact (kernel_end (h.1 c) _ (by decide)).trans (kernel_codes m c)
    · exact (kernel_end (h.1 c) _ (by decide)).trans (Cert.KernelIdeal.Gen.V17_main_arg0 m (outs m) c)
    · exact (kernel_end (h.1 c) _ (by decide)).trans (Cert.KernelIdeal.Gen.V17_main_arg1 m (outs m) c)
  · refine θ_run_mono (ref_run m' g') fun r h c => ⟨?_, ?_, ?_, ?_⟩
    · refine (h c _).trans ((ref_sum _).trans ?_)
      exact congrArg₂ (sumAt (F := Ideal) · · 4) (hagree c).2 (hagree c).1
    · refine (h c _).trans ((ref_codes _).trans ?_)
      exact congrArg₂ (fun C X => columns (codesAt (F := Ideal) C X 0) (codesAt (F := Ideal) C X 1) (codesAt (F := Ideal) C X 2)
        (codesAt (F := Ideal) C X 3)) (hagree c).2 (hagree c).1
    · exact (h c _).trans (ref_args _).1
    · exact (h c _).trans (ref_args _).2

end Cert.Proof
end
-- ==== Proof.lean ====
/-
  The certificate: the frames of the three programs, that the kernel with a named sentinel is the kernel as given, and that
  it computes what the reference does.
-/
module

public import proofs.«01_k».proof.Defs
public import proofs.«01_k».proof.Proof.Transfer
public import proofs.«01_k».proof.Proof.RefFrame
public import proofs.«01_k».proof.Proof.Equal
public import Idealize.ShloMosaic.Adequacy
public import Idealize.ShloMosaic.Init

@[expose] public section
noncomputable section
namespace Cert.Proof
open Idealize.ShloMosaic Idealize.SL.Sem

theorem claim : Cert.Claim :=
  ⟨Cert.Kernel.Gen.facts, Cert.KernelIdeal.Gen.facts, Cert.ReferenceIdeal.Gen.facts, finite_facts,
    fun m g _ => given_frame m g,
    fun m g _ => run_frame (F := Ideal) m g,
    fun m g _ => run_frame (F := Ideal) m g,
    ref_frame,
    fun m g _ => ref_frame m g trivial,
    IdealRules.named_const.statement Cert.KernelIdeal.κ "big" .f32 0x7F61B1E6#32 ⊤ rfl,
    equal⟩

end Cert.Proof
end
